-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S4x1024x1024 : Shape := ⟨3, ![4, 1024, 1024]⟩
abbrev S4 : Shape := ⟨1, ![4]⟩
abbrev S16 : Shape := ⟨1, ![16]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S4x1024x1024, .f32⟩
  | .local _ .vmem, ⟨1, _⟩ => ⟨S4x1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v9 : BitVec 32 := Scalar.muli v5 c16384_i32
  let v14 : BitVec 32 := Scalar.addi v9 c0_i32
  let c0_i32_12 : BitVec 32 := 0#32
  ![v14.toNat, 0]
def k0_off2 (d0 : Dev nD) (c0_i32_13 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c16384_i32_5 : BitVec 32 := 16384#32
  let v11 : BitVec 32 := Scalar.muli v10 c16384_i32_5
  let v20 : BitVec 32 := Scalar.addi v11 c0_i32_13
  let c0_i32_18 : BitVec 32 := 0#32
  ![v20.toNat, 0]
def k0_off3 (d0 : Dev nD) (c0_i32_24 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c32768_i32 : BitVec 32 := 32768#32
  let v6 : BitVec 32 := Scalar.muli v2 c32768_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v9 : BitVec 32 := Scalar.muli v5 c16384_i32
  let v32 : BitVec 32 := Scalar.addi v9 c0_i32_24
  let v44 : BitVec 32 := Scalar.addi v6 v32
  let c0_i32_37 : BitVec 32 := 0#32
  ![v44.toNat, 0]
def k0_dev1 (d0 : Dev nD) : Nat :=
  let c0_i32_49 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_48 : BitVec 32 := 2#32
  let v57 : BitVec 32 := Scalar.muli v12 c2_i32_48
  let v58 : BitVec 32 := Scalar.addi c0_i32_49 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v59 : BitVec 32 := Scalar.muli v5 c1_i32_50
  let v60 : BitVec 32 := Scalar.addi v58 v59
  v60.toNat
def k0_dev2 (d0 : Dev nD) : Nat :=
  let c0_i32_83 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_82 : BitVec 32 := 2#32
  let v98 : BitVec 32 := Scalar.muli v12 c2_i32_82
  let v99 : BitVec 32 := Scalar.addi c0_i32_83 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v100 : BitVec 32 := Scalar.muli v5 c1_i32_84
  let v101 : BitVec 32 := Scalar.addi v99 v100
  v101.toNat
def k0_dev3 (d0 : Dev nD) : Nat :=
  let c0_i32_118 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_117 : BitVec 32 := 2#32
  let v139 : BitVec 32 := Scalar.muli v12 c2_i32_117
  let v140 : BitVec 32 := Scalar.addi c0_i32_118 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_119 : BitVec 32 := 1#32
  let v141 : BitVec 32 := Scalar.muli v5 c1_i32_119
  let v142 : BitVec 32 := Scalar.addi v140 v141
  v142.toNat
def k0_off4 (d0 : Dev nD) (c0_i32_129 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c32768_i32_3 : BitVec 32 := 32768#32
  let v8 : BitVec 32 := Scalar.muli v7 c32768_i32_3
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v9 : BitVec 32 := Scalar.muli v5 c16384_i32
  let v157 : BitVec 32 := Scalar.addi v8 v9
  let v158 : BitVec 32 := Scalar.addi v157 c0_i32_129
  let c0_i32_135 : BitVec 32 := 0#32
  ![v158.toNat, 0]
def k0_dev4 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v159 : BitVec 32 := Scalar.muli v2 c2_i32_132
  let v160 : BitVec 32 := Scalar.addi c0_i32_133 v159
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_134 : BitVec 32 := 1#32
  let v161 : BitVec 32 := Scalar.muli v13 c1_i32_134
  let v162 : BitVec 32 := Scalar.addi v160 v161
  v162.toNat
def k0_off5 (d0 : Dev nD) (c0_i32_142 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c32768_i32 : BitVec 32 := 32768#32
  let v6 : BitVec 32 := Scalar.muli v2 c32768_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c16384_i32_5 : BitVec 32 := 16384#32
  let v11 : BitVec 32 := Scalar.muli v10 c16384_i32_5
  let v175 : BitVec 32 := Scalar.addi v11 c0_i32_142
  let v187 : BitVec 32 := Scalar.addi v6 v175
  let c0_i32_155 : BitVec 32 := 0#32
  ![v187.toNat, 0]
def k0_dev5 (d0 : Dev nD) : Nat :=
  let c0_i32_194 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_193 : BitVec 32 := 2#32
  let v229 : BitVec 32 := Scalar.muli v12 c2_i32_193
  let v230 : BitVec 32 := Scalar.addi c0_i32_194 v229
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_195 : BitVec 32 := 1#32
  let v231 : BitVec 32 := Scalar.muli v5 c1_i32_195
  let v232 : BitVec 32 := Scalar.addi v230 v231
  v232.toNat
def k0_dev6 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v249 : BitVec 32 := Scalar.muli v2 c2_i32_208
  let v250 : BitVec 32 := Scalar.addi c0_i32_209 v249
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_210 : BitVec 32 := 1#32
  let v251 : BitVec 32 := Scalar.muli v13 c1_i32_210
  let v252 : BitVec 32 := Scalar.addi v250 v251
  v252.toNat
def k0_dev7 (d0 : Dev nD) : Nat :=
  let c0_i32_270 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_269 : BitVec 32 := 2#32
  let v319 : BitVec 32 := Scalar.muli v12 c2_i32_269
  let v320 : BitVec 32 := Scalar.addi c0_i32_270 v319
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v321 : BitVec 32 := Scalar.muli v5 c1_i32_271
  let v322 : BitVec 32 := Scalar.addi v320 v321
  v322.toNat
def k0_dev8 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v339 : BitVec 32 := Scalar.muli v2 c2_i32_284
  let v340 : BitVec 32 := Scalar.addi c0_i32_285 v339
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_286 : BitVec 32 := 1#32
  let v341 : BitVec 32 := Scalar.muli v13 c1_i32_286
  let v342 : BitVec 32 := Scalar.addi v340 v341
  v342.toNat
def k0_dev9 (d0 : Dev nD) : Nat :=
  let c0_i32_347 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_346 : BitVec 32 := 2#32
  let v409 : BitVec 32 := Scalar.muli v12 c2_i32_346
  let v410 : BitVec 32 := Scalar.addi c0_i32_347 v409
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_348 : BitVec 32 := 1#32
  let v411 : BitVec 32 := Scalar.muli v5 c1_i32_348
  let v412 : BitVec 32 := Scalar.addi v410 v411
  v412.toNat
def k0_dev10 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v429 : BitVec 32 := Scalar.muli v2 c2_i32_361
  let v430 : BitVec 32 := Scalar.addi c0_i32_362 v429
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_363 : BitVec 32 := 1#32
  let v431 : BitVec 32 := Scalar.muli v13 c1_i32_363
  let v432 : BitVec 32 := Scalar.addi v430 v431
  v432.toNat
def k0_dev11 (d0 : Dev nD) : Nat :=
  let c0_i32_424 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_423 : BitVec 32 := 2#32
  let v499 : BitVec 32 := Scalar.muli v12 c2_i32_423
  let v500 : BitVec 32 := Scalar.addi c0_i32_424 v499
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_425 : BitVec 32 := 1#32
  let v501 : BitVec 32 := Scalar.muli v5 c1_i32_425
  let v502 : BitVec 32 := Scalar.addi v500 v501
  v502.toNat
def k0_dev12 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v519 : BitVec 32 := Scalar.muli v2 c2_i32_438
  let v520 : BitVec 32 := Scalar.addi c0_i32_439 v519
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_440 : BitVec 32 := 1#32
  let v521 : BitVec 32 := Scalar.muli v13 c1_i32_440
  let v522 : BitVec 32 := Scalar.addi v520 v521
  v522.toNat
def k0_dev13 (d0 : Dev nD) : Nat :=
  let c0_i32_501 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_500 : BitVec 32 := 2#32
  let v589 : BitVec 32 := Scalar.muli v12 c2_i32_500
  let v590 : BitVec 32 := Scalar.addi c0_i32_501 v589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v591 : BitVec 32 := Scalar.muli v5 c1_i32_502
  let v592 : BitVec 32 := Scalar.addi v590 v591
  v592.toNat
def k0_dev14 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v609 : BitVec 32 := Scalar.muli v2 c2_i32_515
  let v610 : BitVec 32 := Scalar.addi c0_i32_516 v609
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_517 : BitVec 32 := 1#32
  let v611 : BitVec 32 := Scalar.muli v13 c1_i32_517
  let v612 : BitVec 32 := Scalar.addi v610 v611
  v612.toNat
def k0_dev15 (d0 : Dev nD) : Nat :=
  let c0_i32_578 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_577 : BitVec 32 := 2#32
  let v679 : BitVec 32 := Scalar.muli v12 c2_i32_577
  let v680 : BitVec 32 := Scalar.addi c0_i32_578 v679
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_579 : BitVec 32 := 1#32
  let v681 : BitVec 32 := Scalar.muli v5 c1_i32_579
  let v682 : BitVec 32 := Scalar.addi v680 v681
  v682.toNat
def k0_dev16 (d0 : Dev nD) : Nat :=
  let c0_i32_593 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_592 : BitVec 32 := 2#32
  let v699 : BitVec 32 := Scalar.muli v2 c2_i32_592
  let v700 : BitVec 32 := Scalar.addi c0_i32_593 v699
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_594 : BitVec 32 := 1#32
  let v701 : BitVec 32 := Scalar.muli v13 c1_i32_594
  let v702 : BitVec 32 := Scalar.addi v700 v701
  v702.toNat
def k0_dev17 (d0 : Dev nD) : Nat :=
  let c0_i32_655 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_654 : BitVec 32 := 2#32
  let v769 : BitVec 32 := Scalar.muli v12 c2_i32_654
  let v770 : BitVec 32 := Scalar.addi c0_i32_655 v769
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_656 : BitVec 32 := 1#32
  let v771 : BitVec 32 := Scalar.muli v5 c1_i32_656
  let v772 : BitVec 32 := Scalar.addi v770 v771
  v772.toNat
def k0_dev18 (d0 : Dev nD) : Nat :=
  let c0_i32_670 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_669 : BitVec 32 := 2#32
  let v789 : BitVec 32 := Scalar.muli v2 c2_i32_669
  let v790 : BitVec 32 := Scalar.addi c0_i32_670 v789
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_671 : BitVec 32 := 1#32
  let v791 : BitVec 32 := Scalar.muli v13 c1_i32_671
  let v792 : BitVec 32 := Scalar.addi v790 v791
  v792.toNat
def k0_dev19 (d0 : Dev nD) : Nat :=
  let c0_i32_732 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_731 : BitVec 32 := 2#32
  let v859 : BitVec 32 := Scalar.muli v12 c2_i32_731
  let v860 : BitVec 32 := Scalar.addi c0_i32_732 v859
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_733 : BitVec 32 := 1#32
  let v861 : BitVec 32 := Scalar.muli v5 c1_i32_733
  let v862 : BitVec 32 := Scalar.addi v860 v861
  v862.toNat
def k0_dev20 (d0 : Dev nD) : Nat :=
  let c0_i32_747 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_746 : BitVec 32 := 2#32
  let v879 : BitVec 32 := Scalar.muli v2 c2_i32_746
  let v880 : BitVec 32 := Scalar.addi c0_i32_747 v879
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_748 : BitVec 32 := 1#32
  let v881 : BitVec 32 := Scalar.muli v13 c1_i32_748
  let v882 : BitVec 32 := Scalar.addi v880 v881
  v882.toNat
def k0_dev21 (d0 : Dev nD) : Nat :=
  let c0_i32_809 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_808 : BitVec 32 := 2#32
  let v949 : BitVec 32 := Scalar.muli v12 c2_i32_808
  let v950 : BitVec 32 := Scalar.addi c0_i32_809 v949
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_810 : BitVec 32 := 1#32
  let v951 : BitVec 32 := Scalar.muli v5 c1_i32_810
  let v952 : BitVec 32 := Scalar.addi v950 v951
  v952.toNat
def k0_dev22 (d0 : Dev nD) : Nat :=
  let c0_i32_824 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_823 : BitVec 32 := 2#32
  let v969 : BitVec 32 := Scalar.muli v2 c2_i32_823
  let v970 : BitVec 32 := Scalar.addi c0_i32_824 v969
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_825 : BitVec 32 := 1#32
  let v971 : BitVec 32 := Scalar.muli v13 c1_i32_825
  let v972 : BitVec 32 := Scalar.addi v970 v971
  v972.toNat
def k0_dev23 (d0 : Dev nD) : Nat :=
  let c0_i32_886 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_885 : BitVec 32 := 2#32
  let v1039 : BitVec 32 := Scalar.muli v12 c2_i32_885
  let v1040 : BitVec 32 := Scalar.addi c0_i32_886 v1039
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_887 : BitVec 32 := 1#32
  let v1041 : BitVec 32 := Scalar.muli v5 c1_i32_887
  let v1042 : BitVec 32 := Scalar.addi v1040 v1041
  v1042.toNat
def k0_dev24 (d0 : Dev nD) : Nat :=
  let c0_i32_901 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_900 : BitVec 32 := 2#32
  let v1059 : BitVec 32 := Scalar.muli v2 c2_i32_900
  let v1060 : BitVec 32 := Scalar.addi c0_i32_901 v1059
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_902 : BitVec 32 := 1#32
  let v1061 : BitVec 32 := Scalar.muli v13 c1_i32_902
  let v1062 : BitVec 32 := Scalar.addi v1060 v1061
  v1062.toNat
def k0_dev25 (d0 : Dev nD) : Nat :=
  let c0_i32_963 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_962 : BitVec 32 := 2#32
  let v1129 : BitVec 32 := Scalar.muli v12 c2_i32_962
  let v1130 : BitVec 32 := Scalar.addi c0_i32_963 v1129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_964 : BitVec 32 := 1#32
  let v1131 : BitVec 32 := Scalar.muli v5 c1_i32_964
  let v1132 : BitVec 32 := Scalar.addi v1130 v1131
  v1132.toNat
def k0_dev26 (d0 : Dev nD) : Nat :=
  let c0_i32_978 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_977 : BitVec 32 := 2#32
  let v1149 : BitVec 32 := Scalar.muli v2 c2_i32_977
  let v1150 : BitVec 32 := Scalar.addi c0_i32_978 v1149
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_979 : BitVec 32 := 1#32
  let v1151 : BitVec 32 := Scalar.muli v13 c1_i32_979
  let v1152 : BitVec 32 := Scalar.addi v1150 v1151
  v1152.toNat
def k0_dev27 (d0 : Dev nD) : Nat :=
  let c0_i32_1040 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_1039 : BitVec 32 := 2#32
  let v1219 : BitVec 32 := Scalar.muli v12 c2_i32_1039
  let v1220 : BitVec 32 := Scalar.addi c0_i32_1040 v1219
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1041 : BitVec 32 := 1#32
  let v1221 : BitVec 32 := Scalar.muli v5 c1_i32_1041
  let v1222 : BitVec 32 := Scalar.addi v1220 v1221
  v1222.toNat
def k0_dev28 (d0 : Dev nD) : Nat :=
  let c0_i32_1055 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1054 : BitVec 32 := 2#32
  let v1239 : BitVec 32 := Scalar.muli v2 c2_i32_1054
  let v1240 : BitVec 32 := Scalar.addi c0_i32_1055 v1239
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_1056 : BitVec 32 := 1#32
  let v1241 : BitVec 32 := Scalar.muli v13 c1_i32_1056
  let v1242 : BitVec 32 := Scalar.addi v1240 v1241
  v1242.toNat
def k0_dev29 (d0 : Dev nD) : Nat :=
  let c0_i32_1112 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_1111 : BitVec 32 := 2#32
  let v1303 : BitVec 32 := Scalar.muli v12 c2_i32_1111
  let v1304 : BitVec 32 := Scalar.addi c0_i32_1112 v1303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1113 : BitVec 32 := 1#32
  let v1305 : BitVec 32 := Scalar.muli v5 c1_i32_1113
  let v1306 : BitVec 32 := Scalar.addi v1304 v1305
  v1306.toNat
def k0_dev30 (d0 : Dev nD) : Nat :=
  let c0_i32_1127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1126 : BitVec 32 := 2#32
  let v1323 : BitVec 32 := Scalar.muli v2 c2_i32_1126
  let v1324 : BitVec 32 := Scalar.addi c0_i32_1127 v1323
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_1128 : BitVec 32 := 1#32
  let v1325 : BitVec 32 := Scalar.muli v13 c1_i32_1128
  let v1326 : BitVec 32 := Scalar.addi v1324 v1325
  v1326.toNat
def k0_dev31 (d0 : Dev nD) : Nat :=
  let c0_i32_1170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1169 : BitVec 32 := 2#32
  let v1372 : BitVec 32 := Scalar.muli v2 c2_i32_1169
  let v1373 : BitVec 32 := Scalar.addi c0_i32_1170 v1372
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_1171 : BitVec 32 := 1#32
  let v1374 : BitVec 32 := Scalar.muli v13 c1_i32_1171
  let v1375 : BitVec 32 := Scalar.addi v1373 v1374
  v1375.toNat
def k0_dev32 (d0 : Dev nD) : Nat :=
  let c0_i32_1213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1212 : BitVec 32 := 2#32
  let v1421 : BitVec 32 := Scalar.muli v2 c2_i32_1212
  let v1422 : BitVec 32 := Scalar.addi c0_i32_1213 v1421
  let c1_i32_7 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_7 v5
  let c1_i32_1214 : BitVec 32 := 1#32
  let v1423 : BitVec 32 := Scalar.muli v13 c1_i32_1214
  let v1424 : BitVec 32 := Scalar.addi v1422 v1423
  v1424.toNat
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Program.lean ====
/-
# The kernel in steps

The kernel of one device, written as short steps over sixteen chunks: fetch a block of the argument, round it and copy it
out, send it along x, forward what came along x to the neighbour along y. `body_eq` says that this is the kernel as printed.
-/
module

public import proofs.«01_k».proof.Proof.Gen.KernelIdeal.Skeleton
public import proofs.«01_k».proof.Proof.Gen.KernelIdeal.Points
public import proofs.«01_k».proof.Proof.Gen.KernelIdeal.Frame

@[expose] public section

noncomputable section

namespace Cert.KernelIdeal.Gather

open Idealize.ShloMosaic Idealize.ShloMosaic.TcCoe
open Idealize.SL Idealize.SL.Sem
open Cert.KernelIdeal.Gen

variable {F : FTy → Type} [FloatOps F]

/-- What a core runs of the kernel: operations, no result. -/
abbrev Run (F : FTy → Type) [FloatOps F] := Prog (TpuEff nD τ sig (Elt F) Λ₀ .tc) PUnit

/-! ## The arrays and the pieces of them the kernel moves -/

/-- The argument in HBM. -/
abbrev xArr : Memref sig .tc .hbm S32768x1024 .f32 := Memref.whole main_arg0
/-- The result in HBM. -/
abbrev outArr : Memref sig .tc .hbm S65536x1024 .bf16 := Memref.whole main_v1
/-- The staging buffer of four f32 slots. -/
abbrev wideBuf : Memref sig .tc .vmem S4x1024x1024 .f32 := Memref.whole cc0_scratch0
/-- The staging buffer of four bf16 slots. -/
abbrev narrowBuf : Memref sig .tc .vmem S4x1024x1024 .bf16 := Memref.whole cc0_scratch1

/-- Slot `s` lies in its buffer. -/
theorem slot_inb (s : Fin 4) : ∀ a, (![s.val, 0, 0] : Fin 3 → Nat) a + S1x1024x1024.size a ≤ S4x1024x1024.size a := by
  revert s; decide
/-- A semaphore's number is in its array of four. -/
theorem sem4_inb (s : Fin 4) : ∀ a, (![s.val] : Fin 1 → Nat) a + S1.size a ≤ S4.size a := by
  revert s; decide
/-- A semaphore's number is in its array of sixteen. -/
theorem sem16_inb (r : Fin 16) : ∀ a, (![r.val] : Fin 1 → Nat) a + S1.size a ≤ S16.size a := by
  revert r; decide

/-- The rectangle of slot `s` in a four-slot buffer. -/
abbrev slotRect (s : Fin 4) : Rect S4x1024x1024 := Rect.unit (s := S4x1024x1024) ![s.val, 0, 0] S1x1024x1024.size (slot_inb s)

/-- A slot's rows are packed as bf16 rows are. -/
theorem slot_packed (s : Fin 4) : (slotRect s).PackedRows (EltTy.packing .bf16) := by
  revert s; decide
/-- A bf16 slot is made of whole words. -/
theorem slot_words (s : Fin 4) : (slotRect s).WholeWords (EltTy.packing .bf16) := by
  revert s; decide

/-- Slot `s` of the f32 staging buffer. -/
abbrev wide (s : Fin 4) : Memref sig .tc .vmem S1024x1024 .f32 :=
  (wideBuf.slice (slotRect s) (fun _ => rfl)).squeeze S1024x1024 squeezes_S1x1024x1024_S1024x1024
/-- Slot `s` of the bf16 staging buffer. -/
abbrev narrow (s : Fin 4) : Memref sig .tc .vmem S1024x1024 .bf16 :=
  (narrowBuf.slice (slotRect s) (fun _ => rfl)).squeeze S1024x1024 squeezes_S1x1024x1024_S1024x1024

/-- Where chunk `r` starts in its half. -/
abbrev ofs (r : Fin 16) : BitVec 32 := BitVec.ofNat 32 (1024 * r.val)

/-- Chunk `r` of the half of the argument that device `d` sends. -/
abbrev inOwn (d : Dev nD) (r : Fin 16) : Memref sig .tc .hbm S1024x1024 .f32 :=
  xArr.slice (Rect.unit (s := S32768x1024) (k0_off1 d (ofs r)) S1024x1024.size (k0_off1_inb d r)) (fun _ => rfl)
/-- Chunk `r` of the other half of the argument. -/
abbrev inOth (d : Dev nD) (r : Fin 16) : Memref sig .tc .hbm S1024x1024 .f32 :=
  xArr.slice (Rect.unit (s := S32768x1024) (k0_off2 d (ofs r)) S1024x1024.size (k0_off2_inb d r)) (fun _ => rfl)
/-- Where chunk `r` of the sent half goes in the result. -/
abbrev outOwn (d : Dev nD) (r : Fin 16) : Memref sig .tc .hbm S1024x1024 .bf16 :=
  outArr.slice (Rect.unit (s := S65536x1024) (k0_off3 d (ofs r)) S1024x1024.size (k0_off3_inb d r)) (fun _ => rfl)
/-- Where chunk `r` of the x-neighbour goes in the result: the chunk that is forwarded. -/
abbrev outAcross (d : Dev nD) (r : Fin 16) : Memref sig .tc .hbm S1024x1024 .bf16 :=
  outArr.slice (Rect.unit (s := S65536x1024) (k0_off4 d (ofs r)) S1024x1024.size (k0_off4_inb d r)) (fun _ => rfl)
/-- Where chunk `r` of the other half goes in the result. -/
abbrev outOth (d : Dev nD) (r : Fin 16) : Memref sig .tc .hbm S1024x1024 .bf16 :=
  outArr.slice (Rect.unit (s := S65536x1024) (k0_off5 d (ofs r)) S1024x1024.size (k0_off5_inb d r)) (fun _ => rfl)

/-- The semaphore of the fetches into slot `s`. -/
abbrev semIn (s : Fin 4) : DmaSem sig := ((cc0_scratch2.slice (Rect.unit (s := S4) ![s.val] S1.size (sem4_inb s))).squeeze S_ squeezes_S1_S_).sem
/-- The semaphore of the copies out of slot `s`. -/
abbrev semOut (s : Fin 4) : DmaSem sig := ((cc0_scratch3.slice (Rect.unit (s := S4) ![s.val] S1.size (sem4_inb s))).squeeze S_ squeezes_S1_S_).sem
/-- Signalled when chunk `r` has been sent along x. -/
abbrev semSX (r : Fin 16) : DmaSem sig := ((cc0_scratch4.slice (Rect.unit (s := S16) ![r.val] S1.size (sem16_inb r))).squeeze S_ squeezes_S1_S_).sem
/-- Signalled when chunk `r` has come along x. -/
abbrev semRX (r : Fin 16) : DmaSem sig := ((cc0_scratch5.slice (Rect.unit (s := S16) ![r.val] S1.size (sem16_inb r))).squeeze S_ squeezes_S1_S_).sem
/-- Signalled when chunk `r` has been forwarded along y. -/
abbrev semSY (r : Fin 16) : DmaSem sig := ((cc0_scratch6.slice (Rect.unit (s := S16) ![r.val] S1.size (sem16_inb r))).squeeze S_ squeezes_S1_S_).sem
/-- Signalled when chunk `r` has come along y. -/
abbrev semRY (r : Fin 16) : DmaSem sig := ((cc0_scratch7.slice (Rect.unit (s := S16) ![r.val] S1.size (sem16_inb r))).squeeze S_ squeezes_S1_S_).sem

/-- The device that `d` sends to along x. -/
abbrev acrossX (d : Dev nD) : Dev nD := ⟨k0_dev1 d, k0_dev1_lt d⟩
/-- The device that `d` forwards to along y. -/
abbrev acrossY (d : Dev nD) : Dev nD := ⟨k0_dev4 d, k0_dev4_lt d⟩

/-- The slot that chunk `r` of the own half passes. -/
abbrev slotOwn (r : Fin 16) : Fin 4 := ⟨r.val % 2, by omega⟩
/-- The slot that chunk `r` of the other half passes. -/
abbrev slotOth (r : Fin 16) : Fin 4 := ⟨2 + r.val % 2, by omega⟩

/-! ## The steps -/

/-- Any block of f32 is made of whole words. -/
theorem wordsIn (m : Memref sig .tc .hbm S1024x1024 .f32) : m.view.WordExact := View.wordExact_bits rfl
/-- So is an f32 slot. -/
theorem wordsWide (s : Fin 4) : (wide s).view.WordExact := (View.wordExact_bits rfl).reshape _ _
/-- So is a bf16 slot. -/
theorem wordsNarrow (s : Fin 4) : (narrow s).view.WordExact :=
  ((Memref.isWhole_whole cc0_scratch1).wordExact_slice rfl _ (slot_words s)).reshape _ _
/-- So is a chunk of the own half of the result. -/
theorem wordsOwn (d : Dev nD) (r : Fin 16) : (outOwn d r).view.WordExact :=
  (Memref.isWhole_whole main_v1).wordExact_slice rfl _ (k0_off3_wordsbf16 d r)
/-- So is a chunk that is forwarded. -/
theorem wordsAcross (d : Dev nD) (r : Fin 16) : (outAcross d r).view.WordExact :=
  (Memref.isWhole_whole main_v1).wordExact_slice rfl _ (k0_off4_wordsbf16 d r)
/-- So is a chunk of the other half. -/
theorem wordsOth (d : Dev nD) (r : Fin 16) : (outOth d r).view.WordExact :=
  (Memref.isWhole_whole main_v1).wordExact_slice rfl _ (k0_off5_wordsbf16 d r)

/-- Start the copy of an input block into wide slot `s`. -/
def fetch (src : Memref sig .tc .hbm S1024x1024 .f32) (s : Fin 4) : Run F :=
  Prog.lift (.enqueueDma src (.here (wide s)) (.dma (semIn s)) (wordsIn src) (wordsWide s) ⟨Or.inl rfl, trivial⟩)

/-- Wait for that copy, round the slot into narrow slot `s`, and copy it out to `dst`. -/
def settle (src : Memref sig .tc .hbm S1024x1024 .f32) (s : Fin 4) (dst : Memref sig .tc .hbm S1024x1024 .bf16)
    (h : dst.view.WordExact) : Run F := do
  Prog.lift (.waitDma2 (semIn s) src (wide s) (wordsIn src) (wordsWide s))
  let v ← Prog.lift (.load wideBuf (slotRect s).toLoadRect (View.loadsAt_vmem h_S1x1024x1024))
  let _ ← Prog.lift (.load narrowBuf (slotRect s).toLoadRect (View.loadsAt_vmem h_S1x1024x1024))
  Prog.lift (.store narrowBuf (slotRect s) (k0_pay1 v) Finset.univ
    (View.stores_vmem h_S1x1024x1024 ((Memref.isWhole_whole cc0_scratch1).storeExact_slice rfl _ (slot_packed s)) (fun _ => rfl)) (.inl rfl))
  Prog.lift (.enqueueDma (narrow s) (.here dst) (.dma (semOut s)) (wordsNarrow s) h ⟨Or.inl rfl, trivial⟩)
  Prog.lift (.waitDma2 (semOut s) (narrow s) dst (wordsNarrow s) h)

/-- Send own chunk `r` to the neighbour along x. -/
def sendAlongX (d : Dev nD) (r : Fin 16) : Run F :=
  Prog.lift (.enqueueDma (outOwn d r) (.remote (Dev.tc (acrossX d)) (outOwn d r) (.dma (semSX r))) (.dma (semRX r))
    (wordsOwn d r) (wordsOwn d r) ⟨⟨rfl, Or.inl rfl⟩, trivial⟩)

/-- Wait for the chunk `r` the x-neighbour sends, and forward it to the neighbour along y. -/
def forwardAlongY (d : Dev nD) (r : Fin 16) : Run F := do
  Prog.lift (.waitDma2 (semRX r) (outOwn d r) (outOwn d r) (wordsOwn d r) (wordsOwn d r))
  Prog.lift (.enqueueDma (outAcross d r) (.remote (Dev.tc (acrossY d)) (outAcross d r) (.dma (semSY r))) (.dma (semRY r))
    (wordsAcross d r) (wordsAcross d r) ⟨⟨rfl, Or.inl rfl⟩, trivial⟩)

/-- Chunk `r` of the other half: fetch the one after it, settle it. -/
def settleOther (d : Dev nD) (r : Fin 16) : Run F := do
  if h : r.val + 1 < 16 then fetch (inOth d ⟨r.val + 1, h⟩) (slotOth ⟨r.val + 1, h⟩)
  settle (inOth d r) (slotOth r) (outOth d r) (wordsOth d r)

/-- Chunk `r` of the own half: fetch the one after it, settle it, send it. -/
def settleOwn (d : Dev nD) (r : Fin 16) : Run F := do
  if h : r.val + 1 < 16 then fetch (inOwn d ⟨r.val + 1, h⟩) (slotOwn ⟨r.val + 1, h⟩)
  settle (inOwn d r) (slotOwn r) (outOwn d r) (wordsOwn d r)
  sendAlongX d r

/-- Forward chunk `r` of the x-neighbour, then settle chunk `r` of the other half. -/
def pass (d : Dev nD) (r : Fin 16) : Run F := do
  forwardAlongY d r
  settleOther d r

/-- Wait for chunk `r` to come along y. -/
def awaitY (d : Dev nD) (r : Fin 16) : Run F :=
  Prog.lift (.waitDma2 (semRY r) (outAcross d r) (outAcross d r) (wordsAcross d r) (wordsAcross d r))

/-- Wait until chunk `r` has been sent along x, and until it has been forwarded along y. -/
def awaitSent (d : Dev nD) (r : Fin 16) : Run F := do
  Prog.lift (.waitDma2 (semSX r) (outOwn d r) (outOwn d r) (wordsOwn d r) (wordsOwn d r))
  Prog.lift (.waitDma2 (semSY r) (outAcross d r) (outAcross d r) (wordsAcross d r) (wordsAcross d r))

/-- The first `n` of the steps `f 0, f 1, …`, in order. -/
def firstOf (f : Fin 16 → Run F) : (n : Nat) → n ≤ 16 → Run F
  | 0, _ => pure ⟨⟩
  | n + 1, h => do firstOf f n (Nat.le_of_succ_le h); f ⟨n, h⟩

/-- Turn `r` of the loop: own chunk `r`, then, from the third turn on, the pass of the chunk two before. -/
def turn (d : Dev nD) (r : Fin 16) : Run F := do
  settleOwn d r
  if h : 2 ≤ r.val then pass d ⟨r.val - 2, by omega⟩

/-- The kernel of device `d`. -/
def kernelRun (d : Dev nD) : Run F := do
  fetch (inOwn d 0) (slotOwn 0)
  fetch (inOth d 0) (slotOth 0)
  firstOf (turn d) 16 le_rfl
  pass d 14
  pass d 15
  firstOf (awaitY d) 16 le_rfl
  firstOf (awaitSent d) 16 le_rfl

set_option maxRecDepth 65536 in
set_option maxHeartbeats 0 in
/-- The kernel as printed is the steps above. -/
theorem body_eq (t : Fin cfg0.N) : bodyAt0 (F := F) t = (Prog.lift .deviceId >>= fun d => kernelRun d) := by
  sl_kernel_rfl

end Cert.KernelIdeal.Gather
end
-- ==== Proof.Contents.lean ====
/-
# What the arrays hold

The rows of the arrays the kernel's pieces cover, and the contents `gathered` the result array ends with: every
device's result is the rounding of the whole argument, whose two halves the devices with mesh coordinate x = 0 and x = 1 hold.
-/
module

public import proofs.«01_k».proof.Proof.Program
public import Idealize.ShloMosaic.Lib.Pipeline.ValueKit.Geometry
public import Idealize.ShloMosaic.Lib.Tactic

@[expose] public section

noncomputable section

namespace Cert.KernelIdeal.Gather

open Cert.KernelIdeal.Gen
open Idealize.ShloMosaic Idealize.ShloMosaic.TcCoe
open Idealize.SL Idealize.SL.Sem

variable {F : FTy → Type} [FloatOps F]

/-- The argument array of device `c`, and its result array. -/
abbrev argAt (c : Dev nD) : Loc nD τ sig := (c.tc : Thread nD τ).loc main_arg0
/-- The result array of device `c`. -/
abbrev resAt (c : Dev nD) : Loc nD τ sig := (c.tc : Thread nD τ).loc main_v1

/-! ## Rows -/

/-- The cells of an array of 1024 columns whose rows are `o, …, o + 1023`. -/
abbrev argRows (o : ℕ) (c : Dev nD) : Finset (Idx (argAt c)) := Finset.univ.filter fun i => o ≤ (i 0).val ∧ (i 0).val < o + 1024
/-- The same of the result array. -/
abbrev resRows (o : ℕ) (c : Dev nD) : Finset (Idx (resAt c)) := Finset.univ.filter fun i => o ≤ (i 0).val ∧ (i 0).val < o + 1024

/-- A slice of 1024 rows of the argument covers the cells of those rows. -/
theorem arg_set {off : Fin 2 → ℕ} {o : ℕ} (h : off = ![o, 0]) (inb) (c : Dev nD) :
    (xArr.slice (Rect.unit (s := S32768x1024) off S1024x1024.size inb) (fun _ => rfl)).view.set = argRows o c := by
  subst h
  ext i
  refine (ValueKit.mem_set_slice_whole_iff main_arg0 _ i Rect.mem_set_unit).trans ?_
  rw [Finset.mem_filter]
  have h1 : (i 1).val < 1024 := (i 1).isLt
  refine ⟨fun h => ⟨Finset.mem_univ _, h 0⟩, fun h a => ?_⟩
  match a with
  | ⟨0, _⟩ => exact h.2
  | ⟨1, _⟩ => exact ⟨Nat.zero_le _, by show (i 1).val < 0 + 1024; omega⟩

/-- A slice of 1024 rows of the result covers the cells of those rows. -/
theorem res_set {off : Fin 2 → ℕ} {o : ℕ} (h : off = ![o, 0]) (inb) (c : Dev nD) :
    (outArr.slice (Rect.unit (s := S65536x1024) off S1024x1024.size inb) (fun _ => rfl)).view.set = resRows o c := by
  subst h
  ext i
  refine (ValueKit.mem_set_slice_whole_iff main_v1 _ i Rect.mem_set_unit).trans ?_
  rw [Finset.mem_filter]
  have h1 : (i 1).val < 1024 := (i 1).isLt
  refine ⟨fun h => ⟨Finset.mem_univ _, h 0⟩, fun h a => ?_⟩
  match a with
  | ⟨0, _⟩ => exact h.2
  | ⟨1, _⟩ => exact ⟨Nat.zero_le _, by show (i 1).val < 0 + 1024; omega⟩

/-- Where an element of such a slice of the argument is. -/
theorem arg_row {off : Fin 2 → ℕ} {o : ℕ} (h : off = ![o, 0]) (inb) (x : S1024x1024.Idx) :
    (((xArr.slice (Rect.unit (s := S32768x1024) off S1024x1024.size inb) (fun _ => rfl)).view.emb x 0 : Fin _).val = o + (x 0).val)
      ∧ (((xArr.slice (Rect.unit (s := S32768x1024) off S1024x1024.size inb) (fun _ => rfl)).view.emb x 1 : Fin _).val = (x 1).val) := by
  subst h
  have h1 := ValueKit.rect_emb_unit_val (s := S32768x1024) ![o, 0] S1024x1024.size inb x 1
  exact ⟨ValueKit.rect_emb_unit_val (s := S32768x1024) ![o, 0] S1024x1024.size inb x 0, h1.trans (Nat.zero_add _)⟩

/-- Where an element of such a slice of the result is. -/
theorem res_row {off : Fin 2 → ℕ} {o : ℕ} (h : off = ![o, 0]) (inb) (x : S1024x1024.Idx) :
    (((outArr.slice (Rect.unit (s := S65536x1024) off S1024x1024.size inb) (fun _ => rfl)).view.emb x 0 : Fin _).val = o + (x 0).val)
      ∧ (((outArr.slice (Rect.unit (s := S65536x1024) off S1024x1024.size inb) (fun _ => rfl)).view.emb x 1 : Fin _).val = (x 1).val) := by
  subst h
  have h1 := ValueKit.rect_emb_unit_val (s := S65536x1024) ![o, 0] S1024x1024.size inb x 1
  exact ⟨ValueKit.rect_emb_unit_val (s := S65536x1024) ![o, 0] S1024x1024.size inb x 0, h1.trans (Nat.zero_add _)⟩

/-! ## The contents gathered -/

/-- Device `c`'s neighbour with the other x coordinate, and the one with the other y coordinate. -/
def nx (c : Dev nD) : Dev nD := acrossX c
/-- Device `c`'s neighbour with the other y coordinate. -/
def ny (c : Dev nD) : Dev nD := acrossY c

/-- The x-neighbour's x-neighbour is the device itself. -/
theorem nx_nx (c : Dev nD) : nx (nx c) = c := by revert c; decide
/-- The y-neighbour's y-neighbour is the device itself. -/
theorem ny_ny (c : Dev nD) : ny (ny c) = c := by revert c; decide
/-- The x-neighbour's coordinates. -/
theorem nx_half (c : Dev nD) : (nx c).val / 2 = 1 - c.val / 2 ∧ (nx c).val % 2 = c.val % 2 := by revert c; decide
/-- The y-neighbour's coordinates. -/
theorem ny_half (c : Dev nD) : (ny c).val / 2 = c.val / 2 ∧ (ny c).val % 2 = 1 - c.val % 2 := by revert c; decide
/-- The two ways to the device diagonally opposite. -/
theorem nx_ny (c : Dev nD) : nx (ny c) = ny (nx c) := by revert c; decide

/-- One element rounded. -/
def rounded (a : F .f32) : F .bf16 := FloatOps.truncf .bf16 bitsLt_bf16_f32 a

/-- The device whose argument device `c`'s result row `i` is rounded from: the device itself for the half it holds, else
    whoever brings it in the end, the x-neighbour or the device diagonally opposite. -/
def bringer (c : Dev nD) (i : ℕ) : Dev nD :=
  if i / 32768 = c.val / 2 then c else if i % 32768 / 16384 = c.val % 2 then nx c else nx (ny c)

/-- What a device sends along x has the same source for both. -/
theorem bringer_x (c : Dev nD) (i : ℕ) (h : i % 32768 / 16384 = c.val % 2) (hi : i < 65536) : bringer (nx c) i = bringer c i := by
  obtain ⟨h1, h2⟩ := nx_half c
  have : c.val < 4 := c.isLt
  unfold bringer
  rw [h1, h2, if_pos h, if_pos h, nx_nx]
  by_cases hc : i / 32768 = c.val / 2
  · rw [if_pos hc, if_neg (by omega)]
  · rw [if_neg hc, if_pos (by omega)]

/-- What a device forwards along y has the same source for both. -/
theorem bringer_y (c : Dev nD) (i : ℕ) (h : i % 32768 / 16384 = c.val % 2) (hx : i / 32768 ≠ c.val / 2) :
    bringer (ny c) i = bringer c i := by
  obtain ⟨h1, h2⟩ := ny_half c
  have : c.val < 4 := c.isLt
  unfold bringer
  rw [h1, h2, if_neg hx, if_neg hx, if_pos h, if_neg (by omega), ny_ny]

/-- Row `i`, column `j` of the argument array. -/
def argCell (c : Dev nD) (i j : ℕ) (hi : i < 32768) (hj : j < 1024) : Idx (argAt c) :=
  fun a => match a with
    | ⟨0, _⟩ => ⟨i, hi⟩
    | ⟨1, _⟩ => ⟨j, hj⟩

/-- A cell of the argument is that of its row and column. -/
theorem argCell_eq (c : Dev nD) (i : Idx (argAt c)) (a b : ℕ) (ha hb) (h0 : (i 0).val = a) (h1 : (i 1).val = b) : argCell c a b ha hb = i := by
  funext k
  match k with
  | ⟨0, _⟩ => exact Fin.ext h0.symm
  | ⟨1, _⟩ => exact Fin.ext h1.symm

variable (m : (ℓ : Loc nD τ sig) → Buf (Elt F) ℓ)

/-- What device `c`'s result array ends with. -/
def gathered (c : Dev nD) : Buf (Elt F) (resAt c) := fun i =>
  rounded (m (argAt (bringer c (i 0).val)) (argCell _ ((i 0).val % 32768) (i 1).val (Nat.mod_lt _ (by decide)) (i 1).isLt))

/-- Two devices' results agree where they have the same source. -/
theorem gathered_congr (c c' : Dev nD) (i : Idx (resAt c)) (h : bringer c' (i 0).val = bringer c (i 0).val) :
    gathered m c' i = gathered m c i := by
  unfold gathered
  rw [h]

/-- A block of the own half of the result is the rounding of the block of the argument it comes from. -/
theorem gathered_self (c : Dev nD) (i : Idx (resAt c)) (j : Idx (argAt c)) (h0 : (i 0).val = 32768 * (c.val / 2) + (j 0).val) (h1 : (i 1).val = (j 1).val) :
    gathered m c i = rounded (m (argAt c) j) := by
  have hj : (j 0).val < 32768 := (j 0).isLt
  have hb : bringer c (i 0).val = c := by unfold bringer; rw [if_pos (by omega)]
  have key : ∀ b : Dev nD, b = c → ∀ a hi hj', a = (j 0).val →
      rounded (m (argAt b) (argCell b a (i 1).val hi hj')) = rounded (m (argAt c) j) := by
    rintro b rfl a hi hj' rfl
    exact congrArg (fun k => rounded (m (argAt b) k)) (argCell_eq b j _ _ _ _ rfl h1.symm)
  exact key _ hb _ _ _ (by omega)

end Cert.KernelIdeal.Gather
end
-- ==== Proof.Deal.lean ====
/-
# The launch of a kernel whose devices trade buffers before they start

A device of this kernel writes into rows of its neighbours' result arrays, and it is handed those rows before the
first instruction: there is no handshake in the kernel that could hand them over later. So what each core starts from
is dealt from what ALL cores hold at launch. This module states the run of the program from one such deal.
-/
module

public import proofs.«01_k».proof.Proof.Program
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Two books of rounds side by side: the region's own, and the one of the kernel's semaphores. -/
abbrev Books : Type := UR sig nD τ × UR sig nD τ

local notation "𝕄" => MT nD τ sig Unit (Elt F) ℕ Books ℕ

/-- Where the region's own book lies. -/
abbrev bookP : Emb (UR sig nD τ) (MT nD τ sig Unit (Elt F) ℕ Books ℕ) := embL
/-- Where the book of the kernel's semaphores lies. -/
abbrev bookK : Emb (UR sig nD τ) (MT nD τ sig Unit (Elt F) ℕ Books ℕ) := embR

/-- The kernel's program has no loop that needs a variant. -/
abbrev noLoops : Variants := Variants.none

/-- What the machine holds of core `c`'s memory and own semaphores at launch, with what the launch credits it with. -/
def handed (m : (ℓ : Loc nD τ sig) → Buf (Elt F) ℓ) {K : Type} [Fintype K] (osem : K → SemLoc sig)
    (O₀ : Dev nD → CellTallies nD τ sig Unit) (G : Dev nD → sProp 𝕄) (c : Dev nD) : sProp 𝕄 :=
  iprop(unscopedBufs c (fun b => m ((c.tc : Thread nD τ).loc b)) ∗ Pipeline.ownSems0 osem c ∗ Pipeline.launchCred O₀ c ∗ G c)

section
variable (dats : (p : Fin 1) → (c : Dev nD) → Dat τ (Elt F) Unit ℕ Books ℕ (cfgs p) c)
variable {K : Type} [Fintype K] {osem : K → SemLoc sig} (ho : Pipeline.OwnSemFacts cfg0.spec osem)
variable (O₀ : Dev nD → CellTallies nD τ sig Unit) (L : GSem nD τ sig → Finset Unit) (lv : GSem nD τ sig → Unit → ℕ)
variable (X : Dev nD → sProp (MT nD τ sig Unit (Elt F) ℕ Books ℕ)) (Y : Dev nD → sProp (MT nD τ sig Unit (Elt F) ℕ Books ℕ))

/-- What a core holds as it enters @main. -/
def atEntry (c : Dev nD) : sProp 𝕄 :=
  iprop(scopedBufs (c.tc : Thread nD τ) ∗ Pipeline.cellsSems0 cfgs 0 c ∗ Pipeline.idleSems0 cfgs cellOf_inj 0 ho c
    ∗ owes (c.tc : Thread nD τ) (O₀ c) ∅ ∗ levAts L lv
    ∗ Pipeline.cellsGhost cfgs bookP 0 c ∗ Pipeline.toksInit cfgs bookP 0 c ∗ X c)

/-- What a core holds as it leaves @main: what the body left it, and every scoped semaphore at zero. -/
def atReturn (c : Dev nD) : sProp 𝕄 := iprop(Y c ∗ scopedSems0 (c.tc : Thread nD τ))

/-- One core's start: its scoped buffers and semaphores sorted, the rest as `handed` names it. -/
theorem start_core (m : (ℓ : Loc nD τ sig) → Buf (Elt F) ℓ) (ρ : Dev nD → PrngReg) (c : Dev nD) :
    coreInit (Ix := Unit) (Name := ℕ) (U := Books) (Lvl := ℕ) (Pipeline.owing O₀) 0 (⟨m, fun _ => 0, ρ⟩ : MemSt nD τ sig (Elt F)) (c.tc : Thread nD τ)
      ⊢ iprop(scopedBufs (c.tc : Thread nD τ) ∗ Pipeline.cellsSems0 cfgs 0 c ∗ Pipeline.idleSems0 cfgs cellOf_inj 0 ho c
          ∗ owes (c.tc : Thread nD τ) (O₀ c) ∅ ∗ levels0 c
          ∗ unscopedBufs c (fun b => m ((c.tc : Thread nD τ).loc b)) ∗ Pipeline.ownSems0 osem c ∗ Pipeline.launchCred O₀ c : sProp 𝕄) := by
  refine (Pipeline.coreInit_boundary_owing O₀ m ρ c).trans ?_
  unfold boundary
  rw [Pipeline.scopedSems0_split cfgs cellOf_inj 0 winFacts0.to₀ ho c]
  iintro ⟨⟨Hbufs, ⟨⟨Hcells, Hown⟩, Hidle⟩, -⟩, Hmem, -, Howes, Hlev, -, Hcred⟩
  isplitl [Hbufs]; · iexact Hbufs
  isplitl [Hcells]; · iexact Hcells
  isplitl [Hidle]; · iexact Hidle
  isplitl [Howes]; · iexact Howes
  isplitl [Hlev]; · iexact Hlev
  isplitl [Hmem]; · iexact Hmem
  isplitl [Hown] <;> iassumption

/-- The machine's level cells, assigned once: every core's under `lv`, the other threads having none. -/
theorem assign_levels (hL : ∀ g : GSem nD τ sig, g.1.2 ≠ .tc → L g = ∅) :
    (bigSep Finset.univ fun c : Dev nD => levels0 (Ix := Unit) (Val := Elt F) (Name := ℕ) (U := Books) (Lvl := ℕ) (τ := τ) (sig := sig) c)
      ⊢ (|==> levAts L lv : sProp 𝕄) := by
  refine (bigSep_mono fun c _ => lev_assign_cells (c.tc : Thread nD τ) L lv).trans ((BI.bigSep_bupd _ _).trans (BI.bupd_mono ?_))
  have hoff : ∀ d : Dev nD, (bigSep (Finset.univ.erase Proc.tc) fun p => (coreLevAts ((d, p) : Thread nD τ) L lv : sProp 𝕄)) = BI.emp := fun d => by
    refine (bigSep_congr fun p hp => ?_).trans (BI.bigSep_emp_const _)
    unfold coreLevAts
    refine (bigSep_congr fun sm _ => ?_).trans (BI.bigSep_emp_const _)
    rw [hL ((d, p), sm) (Finset.ne_of_mem_erase hp), BI.bigSep_empty]
  have hall : (levAts L lv : sProp 𝕄) = bigSep Finset.univ fun t : Thread nD τ => coreLevAts t L lv :=
    bigSep_univ_prod fun g : GSem nD τ sig => bigSep (L g) fun i => levAt g i (lv g i)
  rw [hall, bigSep_threads fun t : Thread nD τ => coreLevAts t L lv,
    bigSep_congr fun d _ => hoff d, BI.bigSep_emp_const, bigSep_sep']
  show iprop((_ : sProp 𝕄) ∗ (_ : sProp 𝕄)) ⊢ iprop((_ : sProp 𝕄) ∗ (BI.emp : sProp 𝕄))
  iintro ⟨-, H⟩
  isplitl [H]; · iexact H
  iempintro

/-- The launch: the machine's holdings and the certificate's own make what every core enters @main with. -/
theorem launch_deals (m : (ℓ : Loc nD τ sig) → Buf (Elt F) ℓ) (ρ : Dev nD → PrngReg)
    (hL : ∀ g : GSem nD τ sig, g.1.2 ≠ .tc → L g = ∅) (G : Dev nD → sProp 𝕄) (u₀ : Books)
    (hu₀ : (ownU u₀ : sProp 𝕄) ⊢ |={Set.univ}=> iprop(BI.own (bookP (F := F) (initOf (Pipeline.cells cfgs cellOf_inj) (Pipeline.launchToks cfgs cellOf_inj)))
      ∗ bigSep Finset.univ G))
    (deal : (bigSep Finset.univ (handed m osem O₀ G) : sProp 𝕄) ⊢ |={Set.univ}=> bigSep Finset.univ X) :
    iprop((bigSep Finset.univ fun c : Dev nD =>
        coreInit (Ix := Unit) (Name := ℕ) (U := Books) (Lvl := ℕ) (Pipeline.owing O₀) 0 (⟨m, fun _ => 0, ρ⟩ : MemSt nD τ sig (Elt F)) (c.tc : Thread nD τ))
      ∗ ownU u₀) ⊢ |={Set.univ}=> (bigSep Finset.univ (atEntry ho O₀ L lv X) : sProp 𝕄) := by
  refine (sep_mono_left (bigSep_mono fun c _ => start_core ho O₀ m ρ c)).trans ?_
  have hgh : (bigSep Finset.univ fun c : Dev nD => bigSep Finset.univ fun p => Pipeline.cellsGhost cfgs (bookP (F := F)) p c)
      ⊢ bigSep Finset.univ fun c : Dev nD => Pipeline.cellsGhost cfgs bookP 0 c :=
    bigSep_mono fun c _ => BI.bigSep_elim (Finset.mem_univ 0)
  have htk : (bigSep Finset.univ fun c : Dev nD => bigSep Finset.univ fun p => Pipeline.toksInit cfgs (bookP (F := F)) p c)
      ⊢ bigSep Finset.univ fun c : Dev nD => Pipeline.toksInit cfgs bookP 0 c :=
    bigSep_mono fun c _ => BI.bigSep_elim (Finset.mem_univ 0)
  simp only [bigSep_sep']
  iintro ⟨⟨Hbufs, Hcells, Hidle, Howes, Hlev, Hmem, Hown, Hcred⟩, Hu⟩
  imod (assign_levels L lv hL) $$ Hlev with Hla
  imod hu₀ $$ Hu with ⟨HP, HG⟩
  imod (Pipeline.fund_ghost cfgs bookP cellOf_inj) $$ HP with ⟨Hgh, Htk⟩
  imod deal $$ [Hmem Hown Hcred HG] with HX
  · unfold handed
    simp only [bigSep_sep']
    isplitl [Hmem]; · iexact Hmem
    isplitl [Hown]; · iexact Hown
    isplitl [Hcred] <;> iassumption
  imodintro
  unfold atEntry
  simp only [bigSep_sep']
  isplitl [Hbufs]; · iexact Hbufs
  isplitl [Hcells]; · iexact Hcells
  isplitl [Hidle]; · iexact Hidle
  isplitl [Howes]; · iexact Howes
  isplitl [Hla]
  · iapply (BI.bigSep_intro_persistent (S := Finset.univ) fun (c : Dev nD) _ => (BI.Entails.refl (levAts L lv : sProp 𝕄))); iexact Hla
  isplitl [Hgh]; · iapply hgh; iexact Hgh
  isplitl [Htk]; · iapply htk; iexact Htk
  iexact HX

/-- One core's run of @main, from what it enters with to what it leaves with, owing nothing. -/
theorem run_core (hbody : ∀ c, BodyObligation (dats 0 c) (defs₀ (F := F)) noLoops () Set.univ)
    (howed₀ : ∀ c, (dats 0 c).owed 0 = O₀ c) (howedN : ∀ c, (dats 0 c).owed (Fin.last _) = 0)
    (hin : ∀ c, iprop((X c ∗ levAts L lv) ∗ Pipeline.scopedRest cfg0.spec c) ⊢ (dats 0 c).Φ 0)
    (hout : ∀ c, (dats 0 c).Φ (Fin.last cfg0.N) ⊢ iprop(Y c ∗ Pipeline.ownSems0 osem c ∗ Pipeline.scopedRest cfg0.spec c)) (c : Dev nD) :
    atEntry ho O₀ L lv X c
      ⊢ wp frame (wpE (Pipeline.defs (pcfgs (F := F)) defs₀) (Variants.lift noLoops) (c.tc : Thread nD τ) none) Set.univ (main (F := F) c)
          fun _ => post (liftTc (atReturn Y) BI.emp) (c.tc : Thread nD τ) := by
  have hbufs := Pipeline.scopedBufs_split (τ := τ) (Ix := Unit) (Val := Elt F) (Name := ℕ) (U := Books) (Lvl := ℕ) cfgs 0
    winFacts0.stage_scoped winFacts0.stage_inj stage_whole0 c
  have hsems := Pipeline.scopedSems0_split (τ := τ) (Ix := Unit) (Val := Elt F) (Name := ℕ) (U := Books) (Lvl := ℕ) cfgs cellOf_inj 0 winFacts0.to₀ ho c
  have hend : iprop((dats 0 c).Φ (Fin.last cfg0.N) ∗ Pipeline.cellsSems0 cfgs 0 c ∗ Dat.staging cfg0 c ∗ Pipeline.idleSems0 cfgs cellOf_inj 0 ho c)
      ⊢ iprop(Y c ∗ scopedSems0 (c.tc : Thread nD τ) ∗ scopedBufs (c.tc : Thread nD τ)) := by
    rw [hsems, hbufs]
    iintro ⟨HΦ, Hcells, Hst, Hidle⟩
    ihave H := (hout c) $$ HΦ
    icases H with ⟨HY, Hown, Hrest⟩
    isplitl [HY]; · iexact HY
    isplitl [Hcells Hown Hidle]
    · isplitl [Hcells Hown]; · isplitl [Hcells] <;> iassumption
      iexact Hidle
    isplitl [Hst] <;> iassumption
  rw [show main (F := F) c = .op (.customCall (Pipeline.entry 0) ()) fun _ => .ret ⟨⟩ from rfl]
  unfold atEntry
  iintro ⟨Hsc, Hcells, Hidle, HO, #Hla, Hgh, Htk, HX⟩
  iapply (fupd_wp frame (wpE (Pipeline.defs (pcfgs (F := F)) defs₀) (Variants.lift noLoops) (c.tc : Thread nD τ) none) Set.univ _ _)
  imod (Pipeline.cellsInit_alloc cfgs dats bookP cellOf_inj 0 c) $$ [Hcells Hgh] with ⟨%κ, -, Hinit⟩
  · isplitl [Hcells] <;> iassumption
  imodintro
  iapply (Pipeline.wp_customCall_entry_frame pcfgs (fun p => (cfgs p).toPCfg_adm) dats () bookP κ cellOf_inj 0 defs₀ noLoops (fun _ => fullShare) c
      Set.univ (fun _ _ => Set.mem_univ _) (hbody c).loose block_pos0 none (fun u h => nomatch h) (X := iprop(X c ∗ levAts L lv)) (Y := Y c)
      (R := Pipeline.scopedRest cfg0.spec c) (I := Pipeline.idleSems0 cfgs cellOf_inj 0 ho c) (Entails.of_eq hbufs)
      ((show _ ⊢ iprop((X c ∗ levAts L lv) ∗ Pipeline.scopedRest cfg0.spec c) from by iintro ⟨HX, -, HR⟩; isplitl [HX] <;> iassumption).trans (hin c)) hend
      (k := fun _ => .ret ⟨⟩) (Q := fun _ => post (liftTc (atReturn Y) BI.emp) (c.tc : Thread nD τ))) $$ [HO Hinit Htk HX Hidle Hsc]
  · isplitl [HO Hinit Htk]
    · unfold Pipeline.EntryPre Pipeline.PerCore.EntryPre Dat.owesAt Dat.arrays Pipeline.owesWithin
      rw [howed₀ c]
      isplitr
      · iapply (Entails.of_eq (BI.bigSep_empty (Φ := _)).symm); iempintro
      isplitl [HO]
      · iexists ∅; isplitr; · ipureintro; rw [Finset.coe_empty]; exact Set.empty_subset _
        iexact HO
      isplitr
      · iapply (Pipeline.cellsWaits_intro cfgs dats () 0 c (R := levAts L lv) fun w => w.elim0)
        iexact Hla
      isplitl [Hinit] <;> iassumption
    isplitr
    · unfold Pipeline.prefHeld; iapply (Entails.of_eq (BI.bigSep_empty (Φ := _)).symm); iempintro
    isplitl [HX]
    · isplitl [HX]; · iexact HX
      iexact Hla
    isplitl [Hidle] <;> iassumption
  unfold Pipeline.EntryPost Pipeline.PerCore.EntryPost Dat.owesAt Pipeline.owesWithin
  iintro ⟨⟨-, HO⟩, HY, Hss, -⟩
  rw [wp_ret]; imodintro
  unfold post
  rw [howedN c]
  simp only [liftTc_tc, atReturn]
  icases HO with ⟨%W, -, HW⟩
  isplitr [HW]
  · isplitl [HY] <;> iassumption
  · iexists W; iexact HW

include ho lv in
/-- **The run from a deal.** The devices' arrays, own semaphores and launch credits are dealt together; each core's body
    runs from its share of the deal and its scoped buffers, and gives back its own semaphores at zero and what the
    final memory is read from. Then every run ends, the final memory is as read, and every semaphore is zero. -/
theorem run_dealt (m : (ℓ : Loc nD τ sig) → Buf (Elt F) ℓ) (ρ : Dev nD → PrngReg)
    (hbody : ∀ c, BodyObligation (dats 0 c) (defs₀ (F := F)) noLoops () Set.univ)
    (howed₀ : ∀ c, (dats 0 c).owed 0 = O₀ c) (howedN : ∀ c, (dats 0 c).owed (Fin.last _) = 0)
    (hL : ∀ g : GSem nD τ sig, g.1.2 ≠ .tc → L g = ∅) (G : Dev nD → sProp 𝕄) (u₀ : Books)
    (hu₀ : (ownU u₀ : sProp 𝕄) ⊢ |={Set.univ}=> iprop(BI.own (bookP (F := F) (initOf (Pipeline.cells cfgs cellOf_inj) (Pipeline.launchToks cfgs cellOf_inj)))
      ∗ bigSep Finset.univ G))
    (deal : (bigSep Finset.univ (handed m osem O₀ G) : sProp 𝕄) ⊢ |={Set.univ}=> bigSep Finset.univ X)
    (hin : ∀ c, iprop((X c ∗ levAts L lv) ∗ Pipeline.scopedRest cfg0.spec c) ⊢ (dats 0 c).Φ 0)
    (hout : ∀ c, (dats 0 c).Φ (Fin.last cfg0.N) ⊢ iprop(Y c ∗ Pipeline.ownSems0 osem c ∗ Pipeline.scopedRest cfg0.spec c))
    (QY : Dev nD → MemSt nD τ sig (Elt F) → Prop)
    (hY : ∀ c (s' : Phys nD τ sig (Elt F)), iprop(Y c ∗ SI s') ⊢ |={Set.univ}=> (iprop(⌜QY c s'.mem⌝ ∗ SI s') : sProp 𝕄)) :
    θ_run (Pipeline.defs (pcfgs (F := F)) defs₀) (onTc (τ := τ) (main (F := F))) ⟨m, fun _ => 0, ρ⟩ fun r => (∀ c, QY c r.2) ∧ r.2.sem = fun _ => 0 := by
  classical
  refine (θ_run (Pipeline.defs (pcfgs (F := F)) defs₀) _ _).mono (Q := fun r => (∀ c : Dev nD, QY c r.2 ∧ ∀ sm : SemLoc sig, sm.isScoped .tc = true → r.2.sem ((c.tc : Thread nD τ), sm) = 0)
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu (Pipeline.defs (pcfgs (F := F)) defs₀) _ _ _ (reflect_intro_fupd_tc_sems (X := Unit) (Variants.lift noLoops) (Pipeline.owing O₀) 0 (noBookings fun _ => le_rfl) (Pipeline.owing_of_ne O₀) u₀
      (fun _ => atEntry ho O₀ L lv X) (fun _ => atReturn Y) (fun _ => iprop(emp)) Set.univ ?_ (fun _ c => run_core dats ho O₀ L lv X Y hbody howed₀ howedN hin hout c) fun _ => ?_))
  · refine (launch_deals ho O₀ L lv X m ρ hL G u₀ hu₀ deal).trans (fupd_mono ?_)
    iintro H
    iexists ()
    isplitl [H]; · iexact H
    iempintro
  · have hread (c : Dev nD) (s' : Phys nD τ sig (Elt F)) : iprop(atReturn Y c ∗ SI s') ⊢ |={Set.univ}=>
        (iprop(⌜QY c s'.mem ∧ ∀ sm : SemLoc sig, sm.isScoped .tc = true → s'.mem.sem ((c.tc : Thread nD τ), sm) = 0⌝ ∗ SI s') : sProp 𝕄) := by
      unfold atReturn
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end

end Cert.KernelIdeal.Gather
end
-- ==== Proof.Schedule.lean ====
/-
# The rounds of the kernel's semaphores

Every one of the 72 DMA semaphores of a device is a cell with rounds of one transfer each. A cell of the first eight (one
per staging slot and direction) has eight rounds, one per chunk that passes its slot; every other cell has one round. This
module says what the transfer of each round hands to the core that waits for it.
-/
module

public import proofs.«01_k».proof.Proof.Contents
public import proofs.«01_k».proof.Proof.Deal

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

/-! ## The chunks' first rows -/

/-- Own chunk `r` of the result, which device `c` sends along x. -/
def ownRow (c : Dev nD) (r : ℕ) : ℕ := 32768 * (c.val / 2) + 16384 * (c.val % 2) + 1024 * r
/-- The chunk its x-neighbour brings, which it forwards along y. -/
def acrossRow (c : Dev nD) (r : ℕ) : ℕ := (16384 * (c.val % 2) + 1024 * r + 32768) - 32768 * (c.val / 2)
/-- Chunk `r` of the other half of its own rows. -/
def othRow (c : Dev nD) (r : ℕ) : ℕ := (32768 * (c.val / 2) + 1024 * r + 16384) - 16384 * (c.val % 2)
/-- The chunk its y-neighbour forwards. -/
def farRow (c : Dev nD) (r : ℕ) : ℕ := acrossRow (ny c) r

/-- Chunk `r` of half `h` (0 own, 1 other): its first row in the argument, and in the result. -/
def inRow (c : Dev nD) (h r : ℕ) : ℕ := if h = 0 then 16384 * (c.val % 2) + 1024 * r else (1024 * r + 16384) - 16384 * (c.val % 2)
/-- The first row in the result of chunk `r` of half `h`. -/
def outRow (c : Dev nD) (h r : ℕ) : ℕ := if h = 0 then ownRow c r else othRow c r

/-- The x-neighbour's own chunks are those that come along x. -/
theorem ownRow_nx (c : Dev nD) (r : ℕ) : ownRow (nx c) r = acrossRow c r := by
  obtain ⟨h1, h2⟩ := nx_half c
  have : c.val < 4 := c.isLt
  unfold ownRow acrossRow; rw [h1, h2]; omega

/-- The chunk that passes slot `s` in round `k`: of half `s / 2`, number `2 k + s % 2`. -/
def slotChunk (s k : ℕ) : ℕ := 2 * k + s % 2

/-! ## What is held -/

variable (m : (ℓ : Loc nD τ sig) → Buf (Elt F) ℓ)

/-- 1024 rows of the argument from row `o` on, as launched. -/
def argPiece (c : Dev nD) (o : ℕ) : sProp 𝕄 := argAt c ↦[argRows o c]{fullShare} m (argAt c)
/-- 1024 rows of the result from row `o` on, gathered. -/
def piece (c : Dev nD) (o : ℕ) : sProp 𝕄 := resAt c ↦[resRows o c]{fullShare} gathered m c
/-- 1024 rows of the result from row `o` on, at some contents. -/
def blank (c : Dev nD) (o : ℕ) : sProp 𝕄 := iprop(∃ f : Buf (Elt F) (resAt c), resAt c ↦[resRows o c]{fullShare} f)

/-- The f32 slot `s` of device `c`, with contents `f`. -/
abbrev wideAt (c : Dev nD) (s : Fin 4) (f : Buf (Elt F) ((wide s).view.loc (c.tc : Thread nD τ))) : sProp 𝕄 :=
  (wide s).view.loc (c.tc : Thread nD τ) ↦[(wide s).view.set]{fullShare} f
/-- The bf16 slot `s` of device `c`, with contents `f`. -/
abbrev narrowAt (c : Dev nD) (s : Fin 4) (f : Buf (Elt F) ((narrow s).view.loc (c.tc : Thread nD τ))) : sProp 𝕄 :=
  (narrow s).view.loc (c.tc : Thread nD τ) ↦[(narrow s).view.set]{fullShare} f

/-- 1024 rows of the argument from row `o` on, as a block. -/
def block (c : Dev nD) (o : ℕ) : S1024x1024.Idx → Elt F .f32 := fun x =>
  m (argAt c) (argCell c ((o + (x 0).val) % 32768) (x 1).val (Nat.mod_lt _ (by decide)) (x 1).isLt)

/-- A fetch into slot `s` done: the slot holds the block, and the argument's rows are back. -/
def filled (c : Dev nD) (s : Fin 4) (k : ℕ) : sProp 𝕄 :=
  iprop((∃ f, ⌜(wide s).view.read (Elt F) f = block m c (inRow c (s.val / 2) (slotChunk s.val k))⌝ ∗ wideAt c s f)
    ∗ argPiece m c (inRow c (s.val / 2) (slotChunk s.val k)))
/-- A copy out of slot `s` done: the narrow slot is back, and the result's rows hold what they should. -/
def settled (c : Dev nD) (s : Fin 4) (k : ℕ) : sProp 𝕄 :=
  iprop((∃ f, narrowAt c s f) ∗ piece m c (outRow c (s.val / 2) (slotChunk s.val k)))

/-- What round `k` of semaphore `q` of device `c` hands over. -/
def pay (c : Dev nD) (q : Fin 72) (k : ℕ) : sProp 𝕄 :=
  if h : q.val < 4 then filled m c ⟨q.val, h⟩ k
  else if h : q.val < 8 then settled m c ⟨q.val - 4, by omega⟩ k
  else if q.val < 24 then piece m c (ownRow c (q.val - 8))
  else if q.val < 40 then piece m c (acrossRow c (q.val - 24))
  else if q.val < 56 then piece m c (acrossRow c (q.val - 40))
  else piece m c (farRow c (q.val - 56))

/-- The units of one wide block, and of one narrow block. -/
def wideUnits : ℕ := (wide 0).view.dmaCredit
/-- The units of one narrow block. -/
def narrowUnits : ℕ := (outOwn 0 0).view.dmaCredit

/-- A wide block has some units. -/
theorem wideUnits_pos : 0 < wideUnits := View.dmaCredit_pos _ (by decide)
/-- A narrow block has some units. -/
theorem narrowUnits_pos : 0 < narrowUnits := View.dmaCredit_pos _ (by decide)

/-- The rounds a semaphore has, and the units of each. -/
def rounds (q : Fin 72) : ℕ := if q.val < 8 then 8 else 1
/-- The units that each round of semaphore `q` brings. -/
def units (q : Fin 72) : ℕ := if q.val < 4 then wideUnits else narrowUnits

/-- Every round brings some units. -/
theorem units_pos (q : Fin 72) : 0 < units q := by
  unfold units; split; exacts [wideUnits_pos, narrowUnits_pos]

/-- Semaphore `q` of device `c`. -/
abbrev cell (c : Dev nD) (q : Fin 72) : GSem nD τ sig := ((c.tc : Thread nD τ), .dma q)

/-- The rounds of every semaphore. -/
def book : Rounds.Schedule (GSem nD τ sig) Unit 𝕄 where
  duties g k := match g.2 with
    | .dma q => if k < rounds q then {()} else ∅
    | _ => ∅
  unitless _ := False
  amount g _ _ := match g.2 with
    | .dma q => units q
    | _ => 1
  payload g k _ := match g.2 with
    | .dma q => pay m g.1.1 q k
    | _ => iprop(emp)
  amount_pos g _ _ _ := by
    rcases g with ⟨t, q | q⟩
    · exact Nat.one_pos
    · exact units_pos q

instance (c : Dev nD) (o : ℕ) : BI.Storable (upEmb : UEmb _ 𝕄) (piece m c o) := by unfold piece; infer_instance
instance (c : Dev nD) (o : ℕ) : BI.Storable (upEmb : UEmb _ 𝕄) (argPiece m c o) := by unfold argPiece; infer_instance
instance (c : Dev nD) (q : Fin 72) (k : ℕ) : BI.Storable (upEmb : UEmb _ 𝕄) (pay m c q k) := by
  unfold pay filled settled
  (repeat' split) <;> infer_instance
instance book_storable (g : GSem nD τ sig) (k : ℕ) (d : Unit) : BI.Storable (upEmb : UEmb _ 𝕄) ((book m).payload g k d) := by
  rcases g with ⟨t, q | q⟩
  · show BI.Storable upEmb iprop(emp); infer_instance
  · show BI.Storable upEmb (pay m t.1 q k); infer_instance

section
variable (c : Dev nD) (q : Fin 72) (k : ℕ)

/-- A round of a semaphore is one transfer. -/
theorem duty (h : k < rounds q) : (book m).duties (cell c q) k = {()} := if_pos h
/-- The transfer of a round is among the round's. -/
theorem mem_duty (h : k < rounds q) : () ∈ (book m).duties (cell c q) k := by rw [duty m c q k h]; exact Finset.mem_singleton_self _
/-- After its last round a semaphore expects none. -/
theorem no_duty (r : ℕ) (h : rounds q ≤ r) : (book m).duties (cell c q) r = ∅ := if_neg (by omega)
/-- The units of a transfer. -/
theorem units_eq : (book m).amount (cell c q) k () = units q := rfl
/-- What a transfer hands over. -/
theorem payload_eq : (book m).payload (cell c q) k () = pay m c q k := rfl
/-- The units a round expects. -/
theorem expects (h : k < rounds q) : (book m).expect (cell c q) k = units q := by
  unfold Schedule.expect Schedule.amountOf; rw [duty m c q k h, Finset.sum_singleton]; rfl
/-- What a round with nothing taken hands over. -/
theorem rest (h : k < rounds q) :
    bigSep ((book m).duties (cell c q) k \ ∅) (fun u => (book m).payload (cell c q) k u) = pay m c q k := by
  rw [Finset.sdiff_empty, duty m c q k h, bigSep_singleton, payload_eq]

end

/-! ## The semaphores by number -/

theorem semIn_val (s : Fin 4) : (semIn s).val = s.val := by revert s; decide
theorem semOut_val (s : Fin 4) : (semOut s).val = 4 + s.val := by revert s; decide
theorem semSX_val (r : Fin 16) : (semSX r).val = 8 + r.val := by revert r; decide
theorem semRX_val (r : Fin 16) : (semRX r).val = 24 + r.val := by revert r; decide
theorem semSY_val (r : Fin 16) : (semSY r).val = 40 + r.val := by revert r; decide
theorem semRY_val (r : Fin 16) : (semRY r).val = 56 + r.val := by revert r; decide

theorem units_in (s : Fin 4) : units (semIn s) = wideUnits := if_pos (by rw [semIn_val]; exact s.2)
theorem units_of_ge (q : Fin 72) (h : 4 ≤ q.val) : units q = narrowUnits := if_neg (by omega)
theorem units_out (s : Fin 4) : units (semOut s) = narrowUnits := units_of_ge _ (by rw [semOut_val]; omega)
theorem units_sx (r : Fin 16) : units (semSX r) = narrowUnits := units_of_ge _ (by rw [semSX_val]; omega)
theorem units_rx (r : Fin 16) : units (semRX r) = narrowUnits := units_of_ge _ (by rw [semRX_val]; omega)
theorem units_sy (r : Fin 16) : units (semSY r) = narrowUnits := units_of_ge _ (by rw [semSY_val]; omega)
theorem units_ry (r : Fin 16) : units (semRY r) = narrowUnits := units_of_ge _ (by rw [semRY_val]; omega)

theorem rounds_in (s : Fin 4) : rounds (semIn s) = 8 := if_pos (by rw [semIn_val]; omega)
theorem rounds_out (s : Fin 4) : rounds (semOut s) = 8 := if_pos (by rw [semOut_val]; omega)
theorem rounds_of_ge (q : Fin 72) (h : 8 ≤ q.val) : rounds q = 1 := if_neg (by omega)
theorem rounds_sx (r : Fin 16) : rounds (semSX r) = 1 := rounds_of_ge _ (by rw [semSX_val]; omega)
theorem rounds_rx (r : Fin 16) : rounds (semRX r) = 1 := rounds_of_ge _ (by rw [semRX_val]; omega)
theorem rounds_sy (r : Fin 16) : rounds (semSY r) = 1 := rounds_of_ge _ (by rw [semSY_val]; omega)
theorem rounds_ry (r : Fin 16) : rounds (semRY r) = 1 := rounds_of_ge _ (by rw [semRY_val]; omega)

variable (c : Dev nD)

theorem pay_in (s : Fin 4) (k : ℕ) : pay m c (semIn s) k = filled m c s k := by
  have hv := semIn_val s
  unfold pay
  rw [dif_pos (by omega)]
  exact congrArg (fun u => filled m c u k) (Fin.ext hv)
theorem pay_out (s : Fin 4) (k : ℕ) : pay m c (semOut s) k = settled m c s k := by
  have hv := semOut_val s
  unfold pay
  rw [dif_neg (by omega), dif_pos (by omega)]
  exact congrArg (fun u => settled m c u k) (Fin.ext (by show (semOut s).val - 4 = s.val; omega))
theorem pay_sx (r : Fin 16) (k : ℕ) : pay m c (semSX r) k = piece m c (ownRow c r.val) := by
  have hv := semSX_val r
  unfold pay
  rw [dif_neg (by omega), dif_neg (by omega), if_pos (by omega), show (semSX r).val - 8 = r.val by omega]
theorem pay_rx (r : Fin 16) (k : ℕ) : pay m c (semRX r) k = piece m c (acrossRow c r.val) := by
  have hv := semRX_val r
  unfold pay
  rw [dif_neg (by omega), dif_neg (by omega), if_neg (by omega), if_pos (by omega), show (semRX r).val - 24 = r.val by omega]
theorem pay_sy (r : Fin 16) (k : ℕ) : pay m c (semSY r) k = piece m c (acrossRow c r.val) := by
  have hv := semSY_val r
  unfold pay
  rw [dif_neg (by omega), dif_neg (by omega), if_neg (by omega), if_neg (by omega), if_pos (by omega), show (semSY r).val - 40 = r.val by omega]
theorem pay_ry (r : Fin 16) (k : ℕ) : pay m c (semRY r) k = piece m c (farRow c r.val) := by
  have hv := semRY_val r
  unfold pay
  rw [dif_neg (by omega), dif_neg (by omega), if_neg (by omega), if_neg (by omega), if_neg (by omega), show (semRY r).val - 56 = r.val by omega]

/-! ## The order of waiting -/

/-- Every semaphore of a core that computes may be waited on. -/
def waitable (g : GSem nD τ sig) : Finset Unit := if g.1.2 = .tc then {()} else ∅
/-- A core's own copies settle first; then the x-transfers, then the y-transfers, each kind in order. -/
def order (g : GSem nD τ sig) (_ : Unit) : ℕ := match g.2 with
  | .dma q => if q.val < 24 then 0 else if q.val < 40 then q.val else if q.val < 56 then 0 else 100 + q.val
  | _ => 0

end Cert.KernelIdeal.Gather
end
-- ==== Proof.Steps.lean ====
/-
# The kernel's steps

What each step of the kernel needs and what it leaves: the fetch of a block of the argument, the rounding of a block and
its copy out to the result, the sends along x and along y, and the waits. Everything a step needs lies in the rows it
moves, the staging slot it uses and the semaphores' tokens.
-/
module

public import proofs.«01_k».proof.Proof.Schedule

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

variable (m : (ℓ : Loc nD τ sig) → Buf (Elt F) ℓ)

/-! ## Running a piece of the kernel -/

/-- The piece `p` of device `c`'s kernel runs, and `Q` holds when it ends. -/
abbrev runs (c : Dev nD) (p : Run F) (Q : sProp 𝕄) : sProp 𝕄 :=
  wp frame (wpE (defs₀ (F := F)) noLoops (c.tc : Thread nD τ) none) Set.univ p (fun _ => Q)

/-- What every device may use at any time: the invariants of all semaphores, that each has begun, and the order of waiting. -/
def ctx (κ : Dev nD × Fin 72 → ℕ) : sProp 𝕄 :=
  iprop((bigSep Finset.univ fun p : Dev nD × Fin 72 => cellInv bookK (book m) (κ p) (cell p.1 p.2))
    ∗ (bigSep Finset.univ fun p : Dev nD × Fin 72 => (reached bookK (cell p.1 p.2) 0 : sProp 𝕄))
    ∗ levAts waitable order)

instance (κ : Dev nD × Fin 72 → ℕ) : BI.Persistent (ctx m κ) := by unfold ctx; infer_instance

variable (κ : Dev nD × Fin 72 → ℕ)

/-- The invariant of one semaphore. -/
theorem ctx_inv (c : Dev nD) (q : Fin 72) : ctx m κ ⊢ cellInv bookK (book m) (κ (c, q)) (cell c q) := by
  have h : (bigSep Finset.univ fun p : Dev nD × Fin 72 => cellInv bookK (book m) (κ p) (cell p.1 p.2))
      ⊢ cellInv bookK (book m) (κ (c, q)) (cell c q) := BI.bigSep_elim (i := (c, q)) (Finset.mem_univ _)
  unfold ctx
  iintro ⟨#H, -, -⟩
  iapply h; iexact H

/-- Every semaphore has begun. -/
theorem ctx_begun (c : Dev nD) (q : Fin 72) : ctx m κ ⊢ reached bookK (cell c q) 0 := by
  have h : (bigSep Finset.univ fun p : Dev nD × Fin 72 => (reached bookK (cell p.1 p.2) 0 : sProp 𝕄))
      ⊢ reached bookK (cell c q) 0 := BI.bigSep_elim (i := (c, q)) (Finset.mem_univ _)
  unfold ctx
  iintro ⟨-, #H, -⟩
  iapply h; iexact H

/-- The order of waiting. -/
theorem ctx_levels : ctx m κ ⊢ levAts waitable order := by
  unfold ctx
  iintro ⟨-, -, #H⟩; iexact H

/-- What a run leaves may be turned into what is wanted. -/
theorem runs_wand {c : Dev nD} {p : Run F} {B Q : sProp 𝕄} : iprop(runs c p B ∗ (B -∗ Q)) ⊢ runs c p Q :=
  (wp_frame_r frame _ Set.univ).trans (wp_mono frame _ Set.univ fun _ => BI.sep_comm.trans (BI.wand_elim (Entails.refl _)))

/-- A piece run before another: what the first leaves, with what it did not need, starts the second. -/
theorem runs_seq {c : Dev nD} {p k : Run F} {A B R Q : sProp 𝕄} (h₁ : iprop(ctx m κ ∗ A) ⊢ runs c p B)
    (h₂ : iprop(ctx m κ ∗ B ∗ R) ⊢ runs c k Q) : iprop(ctx m κ ∗ A ∗ R) ⊢ runs c (p >>= fun _ => k) Q := by
  unfold runs
  rw [wp_bind]
  show iprop(ctx m κ ∗ A ∗ R) ⊢ runs c p (runs c k Q)
  iintro ⟨#HC, HA, HR⟩
  iapply (runs_wand (B := B))
  isplitl [HA]
  · iapply h₁; isplitr; · iexact HC
    iexact HA
  iintro HB
  iapply h₂
  isplitr; · iexact HC
  isplitl [HB]; · iexact HB
  iexact HR

/-- One run after another. -/
theorem runs_then {c : Dev nD} {p k : Run F} {A B Q : sProp 𝕄} (h₁ : iprop(ctx m κ ∗ A) ⊢ runs c p B)
    (h₂ : iprop(ctx m κ ∗ B) ⊢ runs c k Q) : iprop(ctx m κ ∗ A) ⊢ runs c (p >>= fun _ => k) Q := by
  iintro ⟨#HC, HA⟩
  iapply (runs_seq m κ (R := iprop(emp)) h₁ ?_)
  · iintro ⟨#HC, HB, -⟩
    iapply h₂
    isplitr; · iexact HC
    iexact HB
  · isplitr; · iexact HC
    isplitl [HA]; · iexact HA
    iempintro

/-- A piece with nothing to do. -/
theorem runs_pure {c : Dev nD} {Q : sProp 𝕄} : Q ⊢ runs c (pure ⟨⟩ : Run F) Q := by
  unfold runs
  rw [Prog.pure_eq_ret, wp_ret]
  exact fupd_intro

/-- A run leaves alone what it does not need. -/
theorem runs_frame {c : Dev nD} {p : Run F} {A B R : sProp 𝕄} (h : iprop(ctx m κ ∗ A) ⊢ runs c p B) :
    iprop(ctx m κ ∗ A ∗ R) ⊢ runs c p iprop(B ∗ R) := by
  iintro ⟨#HC, HA, HR⟩
  iapply (runs_wand (B := B))
  isplitl [HA]
  · iapply h; isplitr; · iexact HC
    iexact HA
  iintro HB
  isplitl [HB]; · iexact HB
  iexact HR

/-- Device `c` owes the transfers `O`. -/
def debt (c : Dev nD) (O : CellTallies nD τ sig Unit) : sProp 𝕄 := iprop(∃ W, owes (c.tc : Thread nD τ) O W)

/-- A wait for the transfer of round `k` of semaphore `q`. -/
theorem wait_run (c : Dev nD) (q : Fin 72) (k : ℕ) (O : CellTallies nD τ sig Unit) (hk : k < rounds q)
    (hO : (levAts waitable order : sProp 𝕄) ⊢ MayWait (c.tc : Thread nD τ) (.dma q) () O)
    {sp sp' : Space} {s s' : Shape} {e e' : EltTy} {src : Memref sig .tc sp' s' e'} {dst : Memref sig .tc sp s e} {hsrc hdst}
    (hN : dst.view.dmaCredit = units q) :
    iprop(ctx m κ ∗ (cred (tallyAt (cell c q) () (units q)) ∗ debt c O ∗ atPos bookK (cell c q) k ∅ 0))
      ⊢ runs c (Prog.lift (.waitDma2 q src dst hsrc hdst))
          iprop(debt c O ∗ atPos bookK (cell c q) (k + 1) ∅ 0 ∗ reached bookK (cell c q) (k + 1) ∗ pay m c q k) := by
  unfold runs debt Prog.lift
  iintro ⟨#HC, Hc, ⟨%W, Ho⟩, Hat⟩
  iapply (Rounds.wp_wait_rest_token noLoops bookK (book m) (c.tc : Thread nD τ) none (κ := κ (c, q))
      (wpE_waitDma2_eq noLoops (c.tc : Thread nD τ) none Set.univ) (Set.mem_univ _) () (O := O) (W := W) (R := k) (m := 0) (T := ∅)
      (by rw [Nat.zero_add, expects m c q k hk]; exact hN)) $$ [Hc Ho Hat]
  · isplitr; · iapply (ctx_inv m κ c q); iexact HC
    isplitl [Hc]; · rw [hN]; iexact Hc
    isplitl [Ho]; · iexact Ho
    isplitr; · iapply hO; iapply (ctx_levels m κ); iexact HC
    iexact Hat
  iintro ⟨Ho, Hat, Hr, Hp⟩
  rw [wp_ret]
  imodintro
  isplitl [Ho]; · iexists _; iexact Ho
  isplitl [Hat]; · iexact Hat
  isplitl [Hr]; · iexact Hr
  iapply (Entails.of_eq (rest m c q k hk)); iexact Hp

/-! ## A slot's two views -/

/-- A wide slot's block, through the slice of the buffer the kernel loads. -/
theorem wide_read (s : Fin 4) (f : (cc0_scratch0 : Ref sig .tc).ty.Contents (Elt F)) (x : S1024x1024.Idx) :
    (wide s).view.read (Elt F) f x
      = (wideBuf.access (slotRect s)).read (Elt F) f (Shape.reshapeEquiv (Shape.Squeezes.numel_eq squeezes_S1x1024x1024_S1024x1024) x) := rfl

/-- What the kernel stores is the rounding, element by element, of what it loaded. -/
theorem stored_eq (v : Vec F S1x1024x1024 .f32) (y : S1x1024x1024.Idx) : k0_pay1 v y = rounded (v y) := by
  have h : k0_pay1 v y = rounded (v (Shape.reshapeEquiv shapeCasts_S1x1024x1024_S1024x1024 (Shape.reshapeEquiv shapeCasts_S1024x1024_S1x1024x1024 y))) := rfl
  rw [h, Shape.reshapeEquiv_reshapeEquiv, Shape.reshapeEquiv_self]

/-- The narrow buffer after the rounding of wide slot `s` (of contents `f`) is stored in slot `s`. -/
def stored (s : Fin 4) (f : (cc0_scratch0 : Ref sig .tc).ty.Contents (Elt F)) (g : (cc0_scratch1 : Ref sig .tc).ty.Contents (Elt F)) :
    (cc0_scratch1 : Ref sig .tc).ty.Contents (Elt F) :=
  (narrowBuf.access (slotRect s)).write (Elt F) g (k0_pay1 ((wideBuf.access (slotRect s)).read (Elt F) f)) Finset.univ

/-- What is read from the slot just stored: the wide slot rounded. -/
theorem stored_read (s : Fin 4) (f : (cc0_scratch0 : Ref sig .tc).ty.Contents (Elt F)) (g : (cc0_scratch1 : Ref sig .tc).ty.Contents (Elt F)) (x : S1024x1024.Idx) :
    (narrow s).view.read (Elt F) (stored s f g) x = rounded ((wide s).view.read (Elt F) f x) := by
  have h := congrFun (View.read_write_univ (Val := Elt F) (v := (narrowBuf.access (slotRect s) : View sig .tc _ _ _)) g
    (k0_pay1 ((wideBuf.access (slotRect s)).read (Elt F) f))) (Shape.reshapeEquiv (Shape.Squeezes.numel_eq squeezes_S1x1024x1024_S1024x1024) x)
  refine Eq.trans ?_ (h.trans ?_)
  · rfl
  · rw [stored_eq, wide_read]

/-- A wide slot filled from the argument's rows `o, …` holds the block of them. -/
theorem filled_read (c : Dev nD) (s : Fin 4) {off : Fin 2 → ℕ} {o : ℕ} (h : off = ![o, 0]) (inb)
    (g : Buf (Elt F) ((wide s).view.loc (c.tc : Thread nD τ))) :
    (wide s).view.read (Elt F) ((wide s).view.write (Elt F) g
      ((xArr.slice (Rect.unit (s := S32768x1024) off S1024x1024.size inb) (fun _ => rfl)).view.read (Elt F) (m (argAt c))) Finset.univ)
      = block m c o := by
  refine (View.read_write_univ (Val := Elt F) (v := (wide s).view) g _).trans ?_
  funext x
  obtain ⟨h0, h1⟩ := arg_row h inb x
  rw [View.read_apply]
  unfold block
  refine congrArg (m (argAt c)) (argCell_eq c _ _ _ _ _ ?_ h1).symm
  have := ((xArr.slice (Rect.unit (s := S32768x1024) off S1024x1024.size inb) (fun _ => rfl)).view.emb x 0).isLt
  have h2 : ((xArr.slice (Rect.unit (s := S32768x1024) off S1024x1024.size inb) (fun _ => rfl)).view.emb x 0).val < 32768 := this
  rw [Nat.mod_eq_of_lt (by omega)]; exact h0

/-- The fetch of chunk `k` of slot `s`. -/
theorem fetch_run (c : Dev nD) (s : Fin 4) (k : ℕ) (hk : k < 8) {off : Fin 2 → ℕ} {o : ℕ} (h : off = ![o, 0]) (inb)
    (ho : o = inRow c (s.val / 2) (slotChunk s.val k)) :
    iprop(ctx m κ ∗ (argPiece m c o ∗ (∃ f, wideAt c s f) ∗ dutyTok bookK (cell c (semIn s)) k () ∗ reached bookK (cell c (semIn s)) k))
      ⊢ runs c (fetch (xArr.slice (Rect.unit (s := S32768x1024) off S1024x1024.size inb) (fun _ => rfl)) s)
          (cred (tallyAt (cell c (semIn s)) () (units (semIn s)))) := by
  unfold runs fetch Prog.lift
  iintro ⟨#HC, Ha, ⟨%g, Hw⟩, Ht, Hr⟩
  iapply (Rounds.wp_copy_pointsTo noLoops bookK (book m) (c.tc : Thread nD τ) none (κ := κ (c, semIn s)) (q := fullShare)
      (fs := m (argAt c)) (fd := g) (mem_duty m c (semIn s) k (by rw [rounds_in]; exact hk)) () (units (semIn s))
      (by rw [units_in]; rfl) (units_eq m c (semIn s) k) (by
        rw [payload_eq, pay_in]
        unfold filled argPiece
        rw [← ho, ← arg_set h inb c]
        iintro ⟨Hw, Ha⟩
        isplitl [Hw]
        · iexists _
          isplitr; · ipureintro; exact filled_read m c s h inb g
          iexact Hw
        iexact Ha)) $$ [Ha Hw Ht Hr]
  · isplitr; · iapply (ctx_inv m κ c (semIn s)); iexact HC
    isplitl [Ha]
    · unfold argPiece; rw [← arg_set h inb c]; iexact Ha
    isplitl [Hw]; · iexact Hw
    isplitl [Ht]; · iexact Ht
    iexact Hr
  iintro Hc
  rw [wp_ret]
  imodintro
  iexact Hc

/-- A chunk lies in the argument. -/
theorem inRow_le (c : Dev nD) (h r : ℕ) (hr : r < 16) : inRow c h r + 1024 ≤ 32768 := by
  unfold inRow; split <;> omega
/-- A chunk's rows in the result are its rows in the argument, after the rows of the smaller x coordinate. -/
theorem outRow_eq (c : Dev nD) (h r : ℕ) : outRow c h r = 32768 * (c.val / 2) + inRow c h r := by
  unfold outRow inRow ownRow othRow; split <;> omega
/-- There are sixteen chunks to a half. -/
theorem slotChunk_lt (s : Fin 4) (k : ℕ) (hk : k < 8) : slotChunk s.val k < 16 := by unfold slotChunk; omega

/-- A block of the argument, rounded and copied to its rows of the result, is what the result should hold there. -/
theorem settled_eq (c : Dev nD) {off : Fin 2 → ℕ} {o o' : ℕ} (h : off = ![o', 0]) (inb) (ho : o' = 32768 * (c.val / 2) + o) (hlt : o + 1024 ≤ 32768)
    (f : Buf (Elt F) (resAt c)) (w : S1024x1024.Idx → Elt F .bf16) (hw : ∀ x, w x = rounded (block m c o x)) (i : Idx (resAt c)) (hi : i ∈ resRows o' c) :
    (outArr.slice (Rect.unit (s := S65536x1024) off S1024x1024.size inb) (fun _ => rfl)).view.write (Elt F) f w Finset.univ i = gathered m c i := by
  rw [← res_set h inb c] at hi
  obtain ⟨x, -, rfl⟩ := Finset.mem_map.mp hi
  obtain ⟨h0, h1⟩ := res_row h inb x
  refine (View.write_emb_of_mem (Val := Elt F) (v := (outArr.slice (Rect.unit (s := S65536x1024) off S1024x1024.size inb) (fun _ => rfl)).view) f w (Finset.mem_univ x)).trans ?_
  rw [hw]
  have hx : (x 0).val < 1024 := (x 0).isLt
  refine (gathered_self m c _ (argCell c ((o + (x 0).val) % 32768) (x 1).val (Nat.mod_lt _ (by decide)) (x 1).isLt) ?_ h1).symm
  refine h0.trans ?_
  show o' + (x 0).val = 32768 * (c.val / 2) + (o + (x 0).val) % 32768
  rw [Nat.mod_eq_of_lt (by omega)]; omega

/-- The access to an f32 slot stays in it. -/
theorem wide_sub (s : Fin 4) : (wideBuf.access (slotRect s)).set ⊆ (wide s).view.set :=
  subset_of_eq (View.set_reshape (wideBuf.access (slotRect s)) _).symm
/-- The access to a bf16 slot stays in it. -/
theorem narrow_sub (s : Fin 4) : (narrowBuf.access (slotRect s)).set ⊆ (narrow s).view.set :=
  subset_of_eq (View.set_reshape (narrowBuf.access (slotRect s)) _).symm

/-- The copy out of slot `s` leaves what the semaphore's round says. -/
theorem settled_pay (c : Dev nD) (s : Fin 4) (k : ℕ) (hk : k < 8) {off' : Fin 2 → ℕ} {o o' : ℕ} (h' : off' = ![o', 0]) (inb')
    (ho : o = inRow c (s.val / 2) (slotChunk s.val k)) (ho' : o' = outRow c (s.val / 2) (slotChunk s.val k))
    (fo : Buf (Elt F) (resAt c)) (f : (cc0_scratch0 : Ref sig .tc).ty.Contents (Elt F)) (g : (cc0_scratch1 : Ref sig .tc).ty.Contents (Elt F))
    (hf : (wide s).view.read (Elt F) f = block m c o) :
    iprop((resAt c ↦[(outArr.slice (Rect.unit (s := S65536x1024) off' S1024x1024.size inb') (fun _ => rfl)).view.set]{fullShare}
          ((outArr.slice (Rect.unit (s := S65536x1024) off' S1024x1024.size inb') (fun _ => rfl)).view.write (Elt F) fo
            ((narrow s).view.read (Elt F) (stored s f g)) Finset.univ))
        ∗ narrowAt c s (stored s f g)) ⊢ pay m c (semOut s) k := by
  rw [pay_out]
  unfold settled piece
  rw [← ho', res_set h' inb' c, pointsTo_congr (settled_eq m c h' inb' (o := o) (by rw [ho', outRow_eq, ← ho])
      (by rw [ho]; exact inRow_le c _ _ (slotChunk_lt s k hk)) fo _ (fun x => (stored_read s f g x).trans (by rw [hf])))]
  iintro ⟨Hb, Hn⟩
  isplitl [Hn]
  · iexists _; iexact Hn
  iexact Hb

/-- Chunk `k` of slot `s`: waited for, rounded, copied to its rows of the result. -/
theorem settle_run (c : Dev nD) (s : Fin 4) (k : ℕ) (hk : k < 8) (O : CellTallies nD τ sig Unit)
    (hin : (levAts waitable order : sProp 𝕄) ⊢ MayWait (c.tc : Thread nD τ) (.dma (semIn s)) () O)
    (hout : (levAts waitable order : sProp 𝕄) ⊢ MayWait (c.tc : Thread nD τ) (.dma (semOut s)) () O)
    {off off' : Fin 2 → ℕ} {o o' : ℕ} (inb) (h' : off' = ![o', 0]) (inb')
    (ho : o = inRow c (s.val / 2) (slotChunk s.val k)) (ho' : o' = outRow c (s.val / 2) (slotChunk s.val k)) (hw) :
    iprop(ctx m κ ∗ (cred (tallyAt (cell c (semIn s)) () (units (semIn s))) ∗ debt c O ∗ blank c o' ∗ (∃ f, narrowAt (F := F) c s f)
        ∗ atPos bookK (cell c (semIn s)) k ∅ 0 ∗ atPos bookK (cell c (semOut s)) k ∅ 0
        ∗ dutyTok bookK (cell c (semOut s)) k () ∗ reached bookK (cell c (semOut s)) k))
      ⊢ runs c (settle (xArr.slice (Rect.unit (s := S32768x1024) off S1024x1024.size inb) (fun _ => rfl)) s
            (outArr.slice (Rect.unit (s := S65536x1024) off' S1024x1024.size inb') (fun _ => rfl)) hw)
          iprop(debt c O ∗ argPiece m c o ∗ piece m c o' ∗ (∃ f, wideAt c s f) ∗ (∃ f, narrowAt c s f)
            ∗ atPos bookK (cell c (semIn s)) (k + 1) ∅ 0 ∗ atPos bookK (cell c (semOut s)) (k + 1) ∅ 0
            ∗ reached bookK (cell c (semIn s)) (k + 1) ∗ reached bookK (cell c (semOut s)) (k + 1)) := by
  unfold settle blank
  have hpi : pay m c (semIn s) k = iprop((∃ f, ⌜(wide s).view.read (Elt F) f = block m c o⌝ ∗ wideAt c s f) ∗ argPiece m c o) := by
    rw [pay_in, ho]; rfl
  have hpo : pay m c (semOut s) k = iprop((∃ f, narrowAt c s f) ∗ piece m c o') := by
    rw [pay_out, ho']; rfl
  have hI := wait_run m κ c (semIn s) k O (by rw [rounds_in]; exact hk) hin
    (src := xArr.slice (Rect.unit (s := S32768x1024) off S1024x1024.size inb) (fun _ => rfl)) (dst := wide s)
    (hsrc := wordsIn _) (hdst := wordsWide s) (by rw [units_in]; rfl)
  have hO := wait_run m κ c (semOut s) k O (by rw [rounds_out]; exact hk) hout
    (src := narrow s) (dst := outArr.slice (Rect.unit (s := S65536x1024) off' S1024x1024.size inb') (fun _ => rfl))
    (hsrc := wordsNarrow s) (hdst := hw) (by rw [units_out]; rfl)
  iintro ⟨#HC, Hc, Hd, ⟨%fo, Hb⟩, ⟨%g, Hn⟩, Hat, Hat', Ht, #Hr⟩
  iapply (runs_seq m κ (R := iprop((resAt c ↦[resRows o' c]{fullShare} fo) ∗ narrowAt c s g ∗ atPos bookK (cell c (semOut s)) k ∅ 0
        ∗ dutyTok bookK (cell c (semOut s)) k () ∗ reached bookK (cell c (semOut s)) k)) hI ?_)
  · iintro ⟨#HC, ⟨Hd, Hat, #Hr1, Hp⟩, Hb, Hn, Hat', Ht, #Hr⟩
    ihave Hp := (Entails.of_eq hpi) $$ Hp
    icases Hp with ⟨⟨%f, %hf, Hw⟩, Ha⟩
    unfold runs
    simp only [Prog.lift, Prog.bind_op, Prog.bind_ret, Prog.pure_eq_ret]
    iapply (wp_load_rect noLoops (c.tc : Thread nD τ) none Set.univ (m := wideBuf) (r := slotRect s) (wide_sub s)) $$ Hw
    iintro Hw
    iapply (wp_load_rect noLoops (c.tc : Thread nD τ) none Set.univ (m := narrowBuf) (r := slotRect s) (narrow_sub s)) $$ Hn
    iintro Hn
    iapply (wp_store noLoops (c.tc : Thread nD τ) none Set.univ (m := narrowBuf) (r := slotRect s) (Mk := Finset.univ) (narrow_sub s)) $$ Hn
    iintro Hn
    iapply (Rounds.wp_copy_pointsTo noLoops bookK (book m) (c.tc : Thread nD τ) none (src := narrow s)
      (dst := outArr.slice (Rect.unit (s := S65536x1024) off' S1024x1024.size inb') (fun _ => rfl)) (sem := .dma (semOut s)) (r := k) (d := ())
      (hsrc := wordsNarrow s) (hdst := hw) (κ := κ (c, semOut s)) (q := fullShare)
      (fs := stored s f g) (fd := fo) (mem_duty m c (semOut s) k (by rw [rounds_out]; exact hk)) () (units (semOut s))
      (by rw [units_out]; rfl) (units_eq m c (semOut s) k) (settled_pay m c s k hk h' inb' ho ho' fo f g hf)) $$ [Hb Hn Ht]
    · isplitr; · iapply (ctx_inv m κ c (semOut s)); iexact HC
      isplitl [Hn]; · unfold stored; iexact Hn
      isplitl [Hb]; · rw [← res_set h' inb' c]; iexact Hb
      isplitl [Ht]; · iexact Ht
      iexact Hr
    iintro Hc
    iapply (runs_wand (c := c) (p := Prog.lift (.waitDma2 (semOut s) (narrow s) _ (wordsNarrow s) hw)))
    isplitl [Hc Hd Hat']
    · iapply hO
      isplitr; · iexact HC
      isplitl [Hc]; · iexact Hc
      isplitl [Hd]; · iexact Hd
      iexact Hat'
    iintro ⟨Hd, Hat', #Hr2, Hp⟩
    ihave Hp := (Entails.of_eq hpo) $$ Hp
    icases Hp with ⟨Hn, Hp⟩
    isplitl [Hd]; · iexact Hd
    isplitl [Ha]; · iexact Ha
    isplitl [Hp]; · iexact Hp
    isplitl [Hw]; · iexists _; iexact Hw
    isplitl [Hn]; · iexact Hn
    isplitl [Hat]; · iexact Hat
    isplitl [Hat']; · iexact Hat'
    isplitr; · iexact Hr1
    iexact Hr2
  · isplitr; · iexact HC
    isplitl [Hc Hd Hat]
    · isplitl [Hc]; · iexact Hc
      isplitl [Hd]; · iexact Hd
      iexact Hat
    isplitl [Hb]; · iexact Hb
    isplitl [Hn]; · iexact Hn
    isplitl [Hat']; · iexact Hat'
    isplitl [Ht]; · iexact Ht
    iexact Hr

end Cert.KernelIdeal.Gather
end
-- ==== Proof.Sends.lean ====
/-
# The sends, and what is owed

A device owes its x-neighbour the sixteen own chunks and its y-neighbour the sixteen chunks it forwards. A wait is
allowed when everything still owed comes later in the order of waiting.
-/
module

public import proofs.«01_k».proof.Proof.Steps

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

/-! ## What is owed -/

/-- What device `c` still owes along x after `a` sends. -/
def owedX (c : Dev nD) (a : ℕ) : CellTallies nD τ sig Unit :=
  ∑ j ∈ (Finset.univ : Finset (Fin 16)).filter (fun j => a ≤ j.val), tallyAt (cell (nx c) (semRX j)) () narrowUnits
/-- What device `c` still owes along y after `b` sends. -/
def owedY (c : Dev nD) (b : ℕ) : CellTallies nD τ sig Unit :=
  ∑ j ∈ (Finset.univ : Finset (Fin 16)).filter (fun j => b ≤ j.val), tallyAt (cell (ny c) (semRY j)) () narrowUnits
/-- After `a` sends along x and `b` along y, device `c` owes the rest. -/
def owed (c : Dev nD) (a b : ℕ) : CellTallies nD τ sig Unit := owedX c a + owedY c b

/-- The numbers from `r` on are `r` and those after it. -/
theorem from_insert (r : Fin 16) : (Finset.univ : Finset (Fin 16)).filter (fun j => r.val ≤ j.val)
    = insert r ((Finset.univ : Finset (Fin 16)).filter (fun j => r.val + 1 ≤ j.val)) := by
  ext j
  simp only [Finset.mem_filter, Finset.mem_univ, true_and, Finset.mem_insert, Fin.ext_iff]
  omega
/-- A number is not among those after it. -/
theorem from_not_mem (r : Fin 16) : r ∉ (Finset.univ : Finset (Fin 16)).filter (fun j => r.val + 1 ≤ j.val) := by
  simp only [Finset.mem_filter, Finset.mem_univ, true_and]; omega
/-- None is from 16 on. -/
theorem from_end : (Finset.univ : Finset (Fin 16)).filter (fun j => 16 ≤ j.val) = ∅ := by decide
/-- All are from 0 on. -/
theorem from_start : (Finset.univ : Finset (Fin 16)).filter (fun j => 0 ≤ j.val) = Finset.univ := by decide

/-- A send along x pays one chunk. -/
theorem owedX_step (c : Dev nD) (r : Fin 16) (b : ℕ) :
    owed c r.val b = owed c (r.val + 1) b + tallyAt (cell (nx c) (semRX r)) () narrowUnits := by
  unfold owed owedX
  rw [from_insert, Finset.sum_insert (from_not_mem r), add_comm (tallyAt _ _ _), add_right_comm]
/-- A send along y pays one chunk. -/
theorem owedY_step (c : Dev nD) (r : Fin 16) (a : ℕ) :
    owed c a r.val = owed c a (r.val + 1) + tallyAt (cell (ny c) (semRY r)) () narrowUnits := by
  unfold owed owedY
  rw [from_insert, Finset.sum_insert (from_not_mem r), add_comm (tallyAt _ _ _), add_assoc]
/-- After all sends nothing is owed. -/
theorem owed_end (c : Dev nD) : owed c 16 16 = 0 := by
  unfold owed owedX owedY
  rw [from_end, Finset.sum_empty, Finset.sum_empty, add_zero]

/-- The waits for a device's own copies come before all others. -/
theorem order_small (c : Dev nD) (q : Fin 72) (h : q.val < 24 ∨ 40 ≤ q.val ∧ q.val < 56) : order (cell c q) () = 0 := by
  show (if q.val < 24 then 0 else if q.val < 40 then q.val else if q.val < 56 then 0 else 100 + q.val) = 0
  split_ifs <;> omega
/-- The arrivals along x in the order of waiting. -/
theorem order_rx (c : Dev nD) (r : Fin 16) : order (cell c (semRX r)) () = 24 + r.val := by
  have hv := semRX_val r
  show (if (semRX r).val < 24 then 0 else if (semRX r).val < 40 then (semRX r).val else if (semRX r).val < 56 then 0 else 100 + (semRX r).val) = _
  rw [hv, if_neg (by omega), if_pos (by omega)]
/-- The arrivals along y come after them. -/
theorem order_ry (c : Dev nD) (r : Fin 16) : order (cell c (semRY r)) () = 156 + r.val := by
  have hv := semRY_val r
  show (if (semRY r).val < 24 then 0 else if (semRY r).val < 40 then (semRY r).val else if (semRY r).val < 56 then 0 else 100 + (semRY r).val) = _
  rw [hv, if_neg (by omega), if_neg (by omega), if_neg (by omega)]; omega

/-- A wait that comes before everything owed is allowed. -/
theorem may_wait (c : Dev nD) (q : Fin 72) (a b : ℕ) (hx : ∀ j : Fin 16, a ≤ j.val → order (cell c q) () < 24 + j.val)
    (hy : ∀ j : Fin 16, b ≤ j.val → order (cell c q) () < 156 + j.val) :
    (levAts waitable order : sProp 𝕄) ⊢ MayWait (c.tc : Thread nD τ) (.dma q) () (owed c a b) := by
  refine Pipeline.mayWait_of_levAts (by unfold waitable; exact Finset.mem_singleton_self _) fun g i hg => ?_
  unfold owed at hg
  rcases Pipeline.add_pos_cases hg with hg | hg
  · unfold owedX at hg
    obtain ⟨j, hj, hg⟩ := Pipeline.sum_pos_exists hg
    rw [tallyAt_apply] at hg
    split_ifs at hg with he
    · rw [he.1, he.2]
      exact ⟨by unfold waitable; exact Finset.mem_singleton_self _, by
        have := hx j (Finset.mem_filter.mp hj).2
        have h2 := order_rx (nx c) j
        show order (cell c q) () < order (cell (nx c) (semRX j)) ()
        omega⟩
    · exact absurd hg (Nat.lt_irrefl 0)
  · unfold owedY at hg
    obtain ⟨j, hj, hg⟩ := Pipeline.sum_pos_exists hg
    rw [tallyAt_apply] at hg
    split_ifs at hg with he
    · rw [he.1, he.2]
      exact ⟨by unfold waitable; exact Finset.mem_singleton_self _, by
        have := hy j (Finset.mem_filter.mp hj).2
        have h2 := order_ry (ny c) j
        show order (cell c q) () < order (cell (ny c) (semRY j)) ()
        omega⟩
    · exact absurd hg (Nat.lt_irrefl 0)

/-- A wait for one of the device's own copies is always allowed. -/
theorem may_wait_own (c : Dev nD) (q : Fin 72) (a b : ℕ) (h : q.val < 24 ∨ 40 ≤ q.val ∧ q.val < 56) :
    (levAts waitable order : sProp 𝕄) ⊢ MayWait (c.tc : Thread nD τ) (.dma q) () (owed c a b) :=
  may_wait c q a b (fun j _ => by rw [order_small c q h]; omega) (fun j _ => by rw [order_small c q h]; omega)

/-! ## The sends -/

variable (m : (ℓ : Loc nD τ sig) → Buf (Elt F) ℓ) (κ : Dev nD × Fin 72 → ℕ)

/-- Rows that are gathered on one device are gathered on the device they are sent to, when the same device brings them to both. -/
theorem sent_eq (c c' : Dev nD) {off : Fin 2 → ℕ} {o : ℕ} (h : off = ![o, 0]) (inb) (fd : Buf (Elt F) (resAt c'))
    (hb : ∀ i, o ≤ i → i < o + 1024 → i < 65536 → bringer c i = bringer c' i) (i : Idx (resAt c')) (hi : i ∈ resRows o c') :
    (outArr.slice (Rect.unit (s := S65536x1024) off S1024x1024.size inb) (fun _ => rfl)).view.write (Elt F) fd
      ((outArr.slice (Rect.unit (s := S65536x1024) off S1024x1024.size inb) (fun _ => rfl)).view.read (Elt F) (gathered m c)) Finset.univ i
      = gathered m c' i := by
  have hr := (Finset.mem_filter.mp hi).2
  have hlt : (i 0).val < 65536 := (i 0).isLt
  have hB := hb (i 0).val hr.1 hr.2 hlt
  rw [← res_set h inb c'] at hi
  obtain ⟨x, -, rfl⟩ := Finset.mem_map.mp hi
  refine (View.write_emb_of_mem (Val := Elt F) (v := (outArr.slice (Rect.unit (s := S65536x1024) off S1024x1024.size inb) (fun _ => rfl)).view) fd _ (Finset.mem_univ x)).trans ?_
  exact gathered_congr m c' c _ hB

/-- What comes along x to the x-neighbour is what the device sends. -/
theorem across_eq (c : Dev nD) (r : ℕ) : acrossRow (nx c) r = ownRow c r := by rw [← ownRow_nx, nx_nx]
/-- What comes along y to the y-neighbour is what the device forwards. -/
theorem far_eq (c : Dev nD) (r : ℕ) : farRow (ny c) r = acrossRow c r := by unfold farRow; rw [ny_ny]

/-- The offset of an own chunk. -/
theorem off_own (d : Dev nD) (r : Fin 16) : k0_off3 d (ofs r) = ![ownRow d r.val, 0] := k0_off3_eq d r
/-- The offset of a chunk that is forwarded. -/
theorem off_across (d : Dev nD) (r : Fin 16) : k0_off4 d (ofs r) = ![acrossRow d r.val, 0] := k0_off4_eq d r

/-- What a send along x writes is what the receiver's round hands over. -/
theorem sentX_pay (c : Dev nD) (r : Fin 16) (fd : Buf (Elt F) (resAt (nx c))) :
    (resAt (nx c) ↦[(outOwn c r).view.set]{fullShare} ((outOwn c r).view.write (Elt F) fd ((outOwn c r).view.read (Elt F) (gathered m c)) Finset.univ))
      ⊢ pay m (nx c) (semRX r) 0 := by
  have hb : ∀ i, ownRow c r.val ≤ i → i < ownRow c r.val + 1024 → i < 65536 → bringer c i = bringer (nx c) i := by
    intro i h1 h2 hi
    have : c.val < 4 := c.isLt
    unfold ownRow at h1 h2
    exact (bringer_x c i (by omega) hi).symm
  rw [pay_rx, across_eq, res_set (off_own c r) _ (nx c)]
  unfold piece
  rw [pointsTo_congr (sent_eq m c (nx c) (off_own c r) _ fd hb)]

/-- The send of own chunk `r`: the right to the neighbour's rows is used up, the own rows come back with the send semaphore. -/
theorem sendX_run (c : Dev nD) (r : Fin 16) (b : ℕ) :
    iprop(ctx m κ ∗ (debt c (owed c r.val b) ∗ piece m c (ownRow c r.val) ∗ blank (nx c) (ownRow c r.val)
        ∗ dutyTok bookK (cell c (semSX r)) 0 () ∗ dutyTok bookK (cell (nx c) (semRX r)) 0 ()))
      ⊢ runs c (sendAlongX c r)
          iprop(cred (tallyAt (cell c (semSX r)) () narrowUnits) ∗ debt c (owed c (r.val + 1) b)) := by
  unfold runs sendAlongX debt blank Prog.lift
  iintro ⟨#HC, ⟨%W, Ho⟩, Hp, ⟨%fd, Hb⟩, Ht, Ht'⟩
  iapply (Rounds.wp_send_pointsTo noLoops bookK (book m) (c.tc : Thread nD τ) none (c' := (nx c).tc) (src := outOwn c r) (dst := outOwn c r)
      (sS := .dma (semSX r)) (sem := .dma (semRX r)) (q := fullShare) (fs := gathered m c) (fd := fd)
      (κ₁ := κ (c, semSX r)) (κ₂ := κ (nx c, semRX r)) (r₁ := 0) (r₂ := 0) (d₁ := ()) (d₂ := ())
      (mem_duty m c (semSX r) 0 (by rw [rounds_sx]; exact Nat.one_pos)) (mem_duty m (nx c) (semRX r) 0 (by rw [rounds_rx]; exact Nat.one_pos))
      () () narrowUnits rfl (units_sx r) (units_rx r) (owed c (r.val + 1) b) (owedX_step c r b) (W := W)
      (by rw [payload_eq, pay_sx, res_set (off_own c r) _ c]; exact Entails.refl _)
      (sentX_pay m c r fd)) $$ [Ho Hp Hb Ht Ht']
  · isplitr; · iapply (ctx_inv m κ c (semSX r)); iexact HC
    isplitr; · iapply (ctx_inv m κ (nx c) (semRX r)); iexact HC
    isplitl [Hp]; · unfold piece; rw [res_set (off_own c r) _ c]; iexact Hp
    isplitl [Hb]; · rw [res_set (off_own c r) _ (nx c)]; iexact Hb
    isplitl [Ho]; · iexact Ho
    isplitl [Ht]; · iexact Ht
    isplitr; · iapply (ctx_begun m κ c (semSX r)); iexact HC
    isplitl [Ht']; · iexact Ht'
    iapply (ctx_begun m κ (nx c) (semRX r)); iexact HC
  iintro ⟨Hc, Ho⟩
  rw [wp_ret]
  imodintro
  isplitl [Hc]; · iexact Hc
  iexists _; iexact Ho

/-- What a send along y writes is what the receiver's round hands over. -/
theorem sentY_pay (c : Dev nD) (r : Fin 16) (fd : Buf (Elt F) (resAt (ny c))) :
    (resAt (ny c) ↦[(outAcross c r).view.set]{fullShare} ((outAcross c r).view.write (Elt F) fd ((outAcross c r).view.read (Elt F) (gathered m c)) Finset.univ))
      ⊢ pay m (ny c) (semRY r) 0 := by
  have hb : ∀ i, acrossRow c r.val ≤ i → i < acrossRow c r.val + 1024 → i < 65536 → bringer c i = bringer (ny c) i := by
    intro i h1 h2 hi
    have : c.val < 4 := c.isLt
    unfold acrossRow at h1 h2
    exact (bringer_y c i (by omega) (by omega)).symm
  rw [pay_ry, far_eq, res_set (off_across c r) _ (ny c)]
  unfold piece
  rw [pointsTo_congr (sent_eq m c (ny c) (off_across c r) _ fd hb)]

/-- Chunk `r` of the x-neighbour: waited for, and sent on to the y-neighbour. -/
theorem forward_run (c : Dev nD) (r : Fin 16) (a : ℕ) (ha : r.val < a) :
    iprop(ctx m κ ∗ (cred (tallyAt (cell c (semRX r)) () narrowUnits) ∗ atPos bookK (cell c (semRX r)) 0 ∅ 0 ∗ debt c (owed c a r.val)
        ∗ blank (ny c) (acrossRow c r.val)
        ∗ dutyTok bookK (cell c (semSY r)) 0 () ∗ dutyTok bookK (cell (ny c) (semRY r)) 0 ()))
      ⊢ runs c (forwardAlongY c r)
          iprop(cred (tallyAt (cell c (semSY r)) () narrowUnits) ∗ debt c (owed c a (r.val + 1)) ∗ atPos bookK (cell c (semRX r)) 1 ∅ 0) := by
  have hW := wait_run m κ c (semRX r) 0 (owed c a r.val) (by rw [rounds_rx]; exact Nat.one_pos)
    (may_wait c (semRX r) a r.val (fun j hj => by rw [order_rx]; omega) (fun j hj => by rw [order_rx]; omega))
    (src := outOwn c r) (dst := outOwn c r) (hsrc := wordsOwn c r) (hdst := wordsOwn c r) (by rw [units_rx]; rfl)
  rw [units_rx, pay_rx] at hW
  unfold forwardAlongY
  iintro ⟨#HC, Hc, Hat, Hd, Hb, Ht, Ht'⟩
  iapply (runs_seq m κ (R := iprop(blank (ny c) (acrossRow c r.val)
        ∗ dutyTok bookK (cell c (semSY r)) 0 () ∗ dutyTok bookK (cell (ny c) (semRY r)) 0 ())) hW ?_)
  · unfold runs debt blank Prog.lift
    iintro ⟨#HC, ⟨⟨%W, Ho⟩, Hat, -, Hp⟩, ⟨%fd, Hb⟩, Ht, Ht'⟩
    iapply (Rounds.wp_send_pointsTo noLoops bookK (book m) (c.tc : Thread nD τ) none (c' := (ny c).tc) (src := outAcross c r) (dst := outAcross c r)
        (sS := .dma (semSY r)) (sem := .dma (semRY r)) (q := fullShare) (fs := gathered m c) (fd := fd)
        (κ₁ := κ (c, semSY r)) (κ₂ := κ (ny c, semRY r)) (r₁ := 0) (r₂ := 0) (d₁ := ()) (d₂ := ())
        (mem_duty m c (semSY r) 0 (by rw [rounds_sy]; exact Nat.one_pos)) (mem_duty m (ny c) (semRY r) 0 (by rw [rounds_ry]; exact Nat.one_pos))
        () () narrowUnits rfl (units_sy r) (units_ry r) (owed c a (r.val + 1)) (owedY_step c r a) (W := W)
        (by rw [payload_eq, pay_sy, res_set (off_across c r) _ c]; exact Entails.refl _)
        (sentY_pay m c r fd)) $$ [Ho Hp Hb Ht Ht']
    · isplitr; · iapply (ctx_inv m κ c (semSY r)); iexact HC
      isplitr; · iapply (ctx_inv m κ (ny c) (semRY r)); iexact HC
      isplitl [Hp]; · unfold piece; rw [res_set (off_across c r) _ c]; iexact Hp
      isplitl [Hb]; · rw [res_set (off_across c r) _ (ny c)]; iexact Hb
      isplitl [Ho]; · iexact Ho
      isplitl [Ht]; · iexact Ht
      isplitr; · iapply (ctx_begun m κ c (semSY r)); iexact HC
      isplitl [Ht']; · iexact Ht'
      iapply (ctx_begun m κ (ny c) (semRY r)); iexact HC
    iintro ⟨Hc, Ho⟩
    rw [wp_ret]
    imodintro
    isplitl [Hc]; · iexact Hc
    isplitl [Ho]; · iexists _; iexact Ho
    iexact Hat
  · isplitr; · iexact HC
    isplitl [Hc Hat Hd]
    · isplitl [Hc]; · iexact Hc
      isplitl [Hd]; · iexact Hd
      iexact Hat
    isplitl [Hb]; · iexact Hb
    isplitl [Ht]; · iexact Ht
    iexact Ht'

/-! ## The last waits -/

/-- The wait for chunk `r` that the y-neighbour forwards. -/
theorem awaitY_run (c : Dev nD) (r : Fin 16) :
    iprop(ctx m κ ∗ (cred (tallyAt (cell c (semRY r)) () narrowUnits) ∗ debt c (owed c 16 16) ∗ atPos bookK (cell c (semRY r)) 0 ∅ 0))
      ⊢ runs c (awaitY c r)
          iprop(debt c (owed c 16 16) ∗ atPos bookK (cell c (semRY r)) 1 ∅ 0 ∗ reached bookK (cell c (semRY r)) 1 ∗ piece m c (farRow c r.val)) := by
  have hW := wait_run m κ c (semRY r) 0 (owed c 16 16) (by rw [rounds_ry]; exact Nat.one_pos)
    (may_wait c (semRY r) 16 16 (fun j hj => by omega) (fun j hj => by omega))
    (src := outAcross c r) (dst := outAcross c r) (hsrc := wordsAcross c r) (hdst := wordsAcross c r) (by rw [units_ry]; rfl)
  rw [units_ry, pay_ry] at hW
  exact hW

/-- The waits for the sends of chunk `r`: its rows come back. -/
theorem awaitSent_run (c : Dev nD) (r : Fin 16) :
    iprop(ctx m κ ∗ (cred (tallyAt (cell c (semSX r)) () narrowUnits) ∗ debt c (owed c 16 16) ∗ atPos bookK (cell c (semSX r)) 0 ∅ 0)
        ∗ (cred (tallyAt (cell c (semSY r)) () narrowUnits) ∗ atPos bookK (cell c (semSY r)) 0 ∅ 0))
      ⊢ runs c (awaitSent c r)
          iprop(debt c (owed c 16 16) ∗ atPos bookK (cell c (semSX r)) 1 ∅ 0 ∗ atPos bookK (cell c (semSY r)) 1 ∅ 0
            ∗ piece m c (ownRow c r.val) ∗ piece m c (acrossRow c r.val)) := by
  have hX := wait_run m κ c (semSX r) 0 (owed c 16 16) (by rw [rounds_sx]; exact Nat.one_pos)
    (may_wait c (semSX r) 16 16 (fun j hj => by omega) (fun j hj => by omega))
    (src := outOwn c r) (dst := outOwn c r) (hsrc := wordsOwn c r) (hdst := wordsOwn c r) (by rw [units_sx]; rfl)
  have hY := wait_run m κ c (semSY r) 0 (owed c 16 16) (by rw [rounds_sy]; exact Nat.one_pos)
    (may_wait c (semSY r) 16 16 (fun j hj => by omega) (fun j hj => by omega))
    (src := outAcross c r) (dst := outAcross c r) (hsrc := wordsAcross c r) (hdst := wordsAcross c r) (by rw [units_sy]; rfl)
  rw [units_sx, pay_sx] at hX
  rw [units_sy, pay_sy] at hY
  unfold awaitSent
  refine runs_seq m κ hX ?_
  iintro ⟨#HC, ⟨Hd, Hat, -, Hp⟩, Hc, Hat'⟩
  iapply (runs_wand (c := c))
  isplitl [Hd Hc Hat']
  · iapply hY
    isplitr; · iexact HC
    isplitl [Hc]; · iexact Hc
    isplitl [Hd]; · iexact Hd
    iexact Hat'
  iintro ⟨Hd, Hat', -, Hp'⟩
  isplitl [Hd]; · iexact Hd
  isplitl [Hat]; · iexact Hat
  isplitl [Hat']; · iexact Hat'
  isplitl [Hp]; · iexact Hp
  iexact Hp'

end Cert.KernelIdeal.Gather
end
-- ==== Proof.Loop.lean ====
/-
# The kernel's loop

Between two turns the own half has settled and sent its first chunks, the other half has settled two fewer, and as many
of the x-neighbour's chunks have been passed on along y. This module states what a device then holds and proves that a
turn, and so the whole loop, and the waits after it, go from one such state to the next.
-/
module

public import proofs.«01_k».proof.Proof.Sends

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

/-! ## Sixteen things, some before and some after -/

/-- `f r` for the chunks from `a` on, and for the chunks before `a`. -/
def after (a : ℕ) (f : Fin 16 → sProp 𝕄) : sProp 𝕄 := bigSep ((Finset.univ : Finset (Fin 16)).filter (fun j => a ≤ j.val)) f
/-- `f r` for the chunks before `a`. -/
def before (a : ℕ) (f : Fin 16 → sProp 𝕄) : sProp 𝕄 := bigSep ((Finset.univ : Finset (Fin 16)).filter (fun j => j.val < a)) f

/-- The first of those that come after. -/
theorem after_take (r : Fin 16) (f : Fin 16 → sProp 𝕄) : after r.val f = iprop(f r ∗ after (r.val + 1) f) := by
  unfold after
  rw [from_insert, bigSep_insert (from_not_mem r)]; rfl
/-- One more of those before. -/
theorem before_put (r : Fin 16) (f : Fin 16 → sProp 𝕄) : before (r.val + 1) f = iprop(f r ∗ before r.val f) := by
  unfold before
  rw [show (Finset.univ : Finset (Fin 16)).filter (fun j => j.val < r.val + 1)
      = insert r ((Finset.univ : Finset (Fin 16)).filter (fun j => j.val < r.val)) by
    ext j
    simp only [Finset.mem_filter, Finset.mem_univ, true_and, Finset.mem_insert, Fin.ext_iff]
    omega, bigSep_insert (by simp only [Finset.mem_filter, Finset.mem_univ, true_and]; omega)]; rfl
/-- All come after at the start. -/
theorem after_all (f : Fin 16 → sProp 𝕄) : after 0 f = bigSep Finset.univ f := by unfold after; rw [from_start]
/-- None comes after at the end. -/
theorem after_none {a : ℕ} (h : 16 ≤ a) (f : Fin 16 → sProp 𝕄) : after a f = iprop(emp) := by
  unfold after
  rw [Finset.filter_false_of_mem (fun j _ => by omega), bigSep_empty]; rfl
/-- All come before at the end. -/
theorem before_all (f : Fin 16 → sProp 𝕄) : before 16 f = bigSep Finset.univ f := by
  unfold before; rw [Finset.filter_true_of_mem (fun j _ => j.isLt)]
/-- None comes before at the start. -/
theorem before_none (f : Fin 16 → sProp 𝕄) : before 0 f = iprop(emp) := by
  unfold before
  rw [Finset.filter_false_of_mem (fun j _ => by omega), bigSep_empty]; rfl

variable (m : (ℓ : Loc nD τ sig) → Buf (Elt F) ℓ) (κ : Dev nD × Fin 72 → ℕ)

/-- Sixteen steps in a row, each from one state to the next. -/
theorem firstOf_run (c : Dev nD) (f : Fin 16 → Run F) (J : ℕ → sProp 𝕄)
    (h : ∀ r : Fin 16, iprop(ctx m κ ∗ J r.val) ⊢ runs c (f r) (J (r.val + 1))) :
    ∀ (n : ℕ) (hn : n ≤ 16), iprop(ctx m κ ∗ J 0) ⊢ runs c (firstOf f n hn) (J n)
  | 0, _ => by
    iintro ⟨-, H⟩
    iapply (runs_pure (c := c)); iexact H
  | n + 1, hn => by
    have ih := firstOf_run c f J h n (Nat.le_of_succ_le hn)
    have hs := h ⟨n, hn⟩
    unfold firstOf
    iintro ⟨#HC, H⟩
    iapply (runs_seq m κ (R := iprop(emp)) ih ?_)
    · iintro ⟨#HC, H, -⟩
      iapply hs
      isplitr; · iexact HC
      iexact H
    · isplitr; · iexact HC
      isplitl [H]; · iexact H
      iempintro

/-! ## A half being converted -/

/-- The slot that chunk `r` of half `h` passes. -/
def slot (h r : ℕ) : Fin 4 := if h = 0 then ⟨r % 2, by omega⟩ else ⟨2 + r % 2, by omega⟩

/-- Which half a slot serves. -/
theorem slot_half (h r : ℕ) (hh : h < 2) : (slot h r).val / 2 = h := by
  unfold slot; split
  · show r % 2 / 2 = h; omega
  · show (2 + r % 2) / 2 = h; omega
/-- The chunk that passes the slot in its round. -/
theorem slot_chunk (h r : ℕ) : slotChunk (slot h r).val (r / 2) = r := by
  unfold slotChunk slot; split
  · show 2 * (r / 2) + r % 2 % 2 = r; omega
  · show 2 * (r / 2) + (2 + r % 2) % 2 = r; omega
/-- Every second chunk of a half passes the same slot. -/
theorem slot_again (h r : ℕ) : slot h (r + 2) = slot h r := by
  unfold slot; split <;> exact Fin.ext (by simp only [Nat.add_mod_right])

/-- Slot `s` between two chunks, `k` of which have passed. -/
def idle (c : Dev nD) (s : Fin 4) (k : ℕ) : sProp 𝕄 :=
  iprop((∃ f, wideAt (F := F) c s f) ∗ (∃ f, narrowAt (F := F) c s f)
    ∗ atPos bookK (cell c (semIn s)) k ∅ 0 ∗ atPos bookK (cell c (semOut s)) k ∅ 0
    ∗ reached bookK (cell c (semIn s)) k ∗ reached bookK (cell c (semOut s)) k)

/-- Chunk `r` of half `h` before it is fetched. -/
def todo (c : Dev nD) (h r : ℕ) : sProp 𝕄 :=
  iprop(argPiece m c (inRow c h r) ∗ blank (F := F) c (outRow c h r)
    ∗ dutyTok bookK (cell c (semIn (slot h r))) (r / 2) () ∗ dutyTok bookK (cell c (semOut (slot h r))) (r / 2) ())

/-- Chunk `r` of half `h` while it is fetched. -/
def fetching (c : Dev nD) (h r : ℕ) : sProp 𝕄 :=
  iprop(cred (tallyAt (cell c (semIn (slot h r))) () (units (semIn (slot h r)))) ∗ blank (F := F) c (outRow c h r)
    ∗ (∃ f, narrowAt (F := F) c (slot h r) f)
    ∗ atPos bookK (cell c (semIn (slot h r))) (r / 2) ∅ 0 ∗ atPos bookK (cell c (semOut (slot h r))) (r / 2) ∅ 0
    ∗ dutyTok bookK (cell c (semOut (slot h r))) (r / 2) () ∗ reached bookK (cell c (semOut (slot h r))) (r / 2))

/-- The chunk whose turn is next: being fetched, or none left and its slot idle. -/
def next (c : Dev nD) (h n : ℕ) : sProp 𝕄 := if n < 16 then fetching c h n else idle c (slot h n) (n / 2)

/-- Half `h` with `n` chunks settled and the next being fetched. -/
def conv (c : Dev nD) (h n : ℕ) : sProp 𝕄 :=
  iprop(after (n + 1) (fun r => todo m c h r.val) ∗ next c h n ∗ idle c (slot h (n + 1)) ((n + 1) / 2)
    ∗ before n (fun r => argPiece m c (inRow c h r.val)))

/-- The same, with the one after that being fetched too. -/
def ahead (c : Dev nD) (h n : ℕ) : sProp 𝕄 :=
  iprop(after (n + 2) (fun r => todo m c h r.val) ∗ fetching c h n ∗ next c h (n + 1)
    ∗ before n (fun r => argPiece m c (inRow c h r.val)))

/-- The fetch of chunk `r`. -/
theorem fetch_chunk (c : Dev nD) (h r : ℕ) (hh : h < 2) (hr : r < 16) {off : Fin 2 → ℕ} (hoff : off = ![inRow c h r, 0]) (inb) :
    iprop(ctx m κ ∗ (todo m c h r ∗ idle c (slot h r) (r / 2)))
      ⊢ runs c (fetch (xArr.slice (Rect.unit (s := S32768x1024) off S1024x1024.size inb) (fun _ => rfl)) (slot h r)) (fetching c h r) := by
  have hF := fetch_run m κ c (slot h r) (r / 2) (by omega) hoff inb (by rw [slot_half h r hh, slot_chunk])
  unfold todo idle fetching
  iintro ⟨#HC, ⟨Ha, Hb, Ht, Ht'⟩, Hw, Hn, Hat, Hat', #Hr, #Hr'⟩
  iapply (runs_wand (c := c))
  isplitl [Ha Hw Ht]
  · iapply hF
    isplitr; · iexact HC
    isplitl [Ha]; · iexact Ha
    isplitl [Hw]; · iexact Hw
    isplitl [Ht]; · iexact Ht
    iexact Hr
  iintro Hc
  isplitl [Hc]; · iexact Hc
  isplitl [Hb]; · iexact Hb
  isplitl [Hn]; · iexact Hn
  isplitl [Hat]; · iexact Hat
  isplitl [Hat']; · iexact Hat'
  isplitl [Ht']; · iexact Ht'
  iexact Hr'

/-- The fetch of the chunk after next. -/
theorem fetch_step (c : Dev nD) (h n : ℕ) (hh : h < 2) (hn : n + 1 < 16) {off : Fin 2 → ℕ} (hoff : off = ![inRow c h (n + 1), 0]) (inb) :
    iprop(ctx m κ ∗ conv m c h n)
      ⊢ runs c (fetch (xArr.slice (Rect.unit (s := S32768x1024) off S1024x1024.size inb) (fun _ => rfl)) (slot h (n + 1))) (ahead m c h n) := by
  have hF := fetch_chunk m κ c h (n + 1) hh hn hoff inb
  have hT : after (n + 1) (fun r => todo m c h r.val) = iprop(todo m c h (n + 1) ∗ after (n + 2) (fun r => todo m c h r.val)) :=
    after_take (⟨n + 1, hn⟩ : Fin 16) (fun r => todo m c h r.val)
  unfold conv ahead
  rw [hT, show next (F := F) c h (n + 1) = fetching c h (n + 1) from if_pos hn, show next (F := F) c h n = fetching c h n from if_pos (by omega)]
  iintro ⟨#HC, ⟨Ht, Ha⟩, Hf, Hi, Hb⟩
  iapply (runs_wand (c := c))
  isplitl [Ht Hi]
  · iapply hF
    isplitr; · iexact HC
    isplitl [Ht]; · iexact Ht
    iexact Hi
  iintro Hn
  isplitl [Ha]; · iexact Ha
  isplitl [Hf]; · iexact Hf
  isplitl [Hn]; · iexact Hn
  iexact Hb

/-- With the last chunk being fetched, there is none ahead. -/
theorem ahead_last (c : Dev nD) (h n : ℕ) (hn : n < 16) (hl : ¬ n + 1 < 16) : conv m c h n ⊢ ahead m c h n := by
  unfold conv ahead
  rw [after_none (by omega), after_none (by omega), show next (F := F) c h n = fetching c h n from if_pos hn,
    show next (F := F) c h (n + 1) = idle c (slot h (n + 1)) ((n + 1) / 2) from if_neg hl]

/-- The settling of the next chunk. -/
theorem settle_step (c : Dev nD) (h : ℕ) (n : Fin 16) (hh : h < 2) (a b : ℕ) {off off' : Fin 2 → ℕ} (inb)
    (hoff' : off' = ![outRow c h n.val, 0]) (inb') (hw) :
    iprop(ctx m κ ∗ (ahead m c h n.val ∗ debt c (owed c a b)))
      ⊢ runs c (settle (xArr.slice (Rect.unit (s := S32768x1024) off S1024x1024.size inb) (fun _ => rfl)) (slot h n.val)
            (outArr.slice (Rect.unit (s := S65536x1024) off' S1024x1024.size inb') (fun _ => rfl)) hw)
          iprop(conv m c h (n.val + 1) ∗ piece m c (outRow c h n.val) ∗ debt c (owed c a b)) := by
  have hin := semIn_val (slot h n.val)
  have hout := semOut_val (slot h n.val)
  have hS := settle_run m κ c (slot h n.val) (n.val / 2) (by omega) (owed c a b)
    (may_wait_own c _ a b (Or.inl (by omega))) (may_wait_own c _ a b (Or.inl (by omega)))
    (off := off) inb hoff' inb' (o := inRow c h n.val) (by rw [slot_half h _ hh, slot_chunk]) (by rw [slot_half h _ hh, slot_chunk]) hw
  unfold ahead conv
  rw [before_put n, slot_again, show (n.val + 1 + 1) / 2 = n.val / 2 + 1 by omega]
  unfold fetching idle
  iintro ⟨#HC, ⟨Ha, ⟨Hc, Hb, Hn, Hat, Hat', Ht, #Hr⟩, Hx, Hp⟩, Hd⟩
  iapply (runs_wand (c := c))
  isplitl [Hc Hd Hb Hn Hat Hat' Ht]
  · iapply hS
    isplitr; · iexact HC
    isplitl [Hc]; · iexact Hc
    isplitl [Hd]; · iexact Hd
    isplitl [Hb]; · iexact Hb
    isplitl [Hn]; · iexact Hn
    isplitl [Hat]; · iexact Hat
    isplitl [Hat']; · iexact Hat'
    isplitl [Ht]; · iexact Ht
    iexact Hr
  iintro ⟨Hd, Hq, Ho, Hw, Hn, Hat, Hat', #Hr1, #Hr2⟩
  isplitr [Hd Ho]
  · isplitl [Ha]; · iexact Ha
    isplitl [Hx]; · iexact Hx
    isplitr [Hq Hp]
    · isplitl [Hw]; · iexact Hw
      isplitl [Hn]; · iexact Hn
      isplitl [Hat]; · iexact Hat
      isplitl [Hat']; · iexact Hat'
      isplitr; · iexact Hr1
      iexact Hr2
    isplitl [Hq]; · iexact Hq
    iexact Hp
  isplitl [Ho]; · iexact Ho
  iexact Hd

end Cert.KernelIdeal.Gather
end
-- ==== Proof.Turns.lean ====
/-
# A turn, the loop, and the whole kernel

From what a device holds at the start of the kernel to what it holds at the end.
-/
module

public import proofs.«01_k».proof.Proof.Loop

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

variable (m : (ℓ : Loc nD τ sig) → Buf (Elt F) ℓ) (κ : Dev nD × Fin 72 → ℕ)

/-- The offset of an own chunk in the argument. -/
theorem off_in (d : Dev nD) (r : Fin 16) : k0_off1 d (ofs r) = ![inRow d 0 r.val, 0] := k0_off1_eq d r
/-- The offset of a chunk of the other half in the argument. -/
theorem off_in' (d : Dev nD) (r : Fin 16) : k0_off2 d (ofs r) = ![inRow d 1 r.val, 0] := k0_off2_eq d r
/-- The offset of an own chunk in the result. -/
theorem off_out (d : Dev nD) (r : Fin 16) : k0_off3 d (ofs r) = ![outRow d 0 r.val, 0] := k0_off3_eq d r
/-- The offset of a chunk of the other half in the result. -/
theorem off_out' (d : Dev nD) (r : Fin 16) : k0_off5 d (ofs r) = ![outRow d 1 r.val, 0] := k0_off5_eq d r

/-! ## The states -/

/-- What the send of own chunk `r` takes. -/
def toSend (c : Dev nD) (r : ℕ) (q q' : Fin 72) : sProp 𝕄 :=
  iprop(blank (F := F) (nx c) (ownRow c r) ∗ dutyTok bookK (cell c q) 0 () ∗ dutyTok bookK (cell (nx c) q') 0 ())

/-- With `a` own chunks sent along x. -/
def sending (c : Dev nD) (a : ℕ) : sProp 𝕄 :=
  iprop(after a (fun r => toSend c r.val (semSX r) (semRX r))
    ∗ before a (fun r => cred (tallyAt (cell c (semSX r)) () narrowUnits)))

/-- What the passing on of chunk `r` takes. -/
def toPass (c : Dev nD) (r : Fin 16) : sProp 𝕄 :=
  iprop(cred (tallyAt (cell c (semRX r)) () narrowUnits) ∗ atPos bookK (cell c (semRX r)) 0 ∅ 0
    ∗ blank (F := F) (ny c) (acrossRow c r.val) ∗ dutyTok bookK (cell c (semSY r)) 0 () ∗ dutyTok bookK (cell (ny c) (semRY r)) 0 ())

/-- With `b` chunks passed on along y. -/
def passing (c : Dev nD) (b : ℕ) : sProp 𝕄 :=
  iprop(after b (fun r => toPass c r)
    ∗ before b (fun r => iprop(cred (tallyAt (cell c (semSY r)) () narrowUnits) ∗ atPos bookK (cell c (semRX r)) 1 ∅ 0)))

/-- With `a` own chunks sent, `b` chunks passed on, and as many settled of either half. -/
def state (c : Dev nD) (a b : ℕ) : sProp 𝕄 :=
  iprop((conv m c 0 a ∗ debt c (owed c a b)) ∗ sending c a ∗ conv m c 1 b ∗ passing c b ∗ before b (fun r => piece m c (othRow c r.val)))

/-! ## The steps of a turn -/

/-- Own chunk `r` settled (the next one fetched before). -/
theorem own_settled (c : Dev nD) (r : Fin 16) (b : ℕ) :
    iprop(ctx m κ ∗ (ahead m c 0 r.val ∗ debt c (owed c r.val b)) ∗ sending c r.val)
      ⊢ runs c (do settle (inOwn c r) (slotOwn r) (outOwn c r) (wordsOwn c r); sendAlongX c r)
          iprop((conv m c 0 (r.val + 1) ∗ debt c (owed c (r.val + 1) b)) ∗ sending c (r.val + 1)) := by
  refine runs_seq m κ (settle_step m κ c 0 r (by decide) r.val b _ (off_out c r) _ _) ?_
  have hX := sendX_run m κ c r b
  unfold sending
  rw [after_take r, before_put r]
  unfold toSend
  iintro ⟨#HC, ⟨Hv, Hp, Hd⟩, ⟨⟨Hb, Ht, Ht'⟩, Ha⟩, Hc⟩
  iapply (runs_wand (c := c))
  isplitl [Hd Hp Hb Ht Ht']
  · iapply hX
    isplitr; · iexact HC
    isplitl [Hd]; · iexact Hd
    isplitl [Hp]; · iexact Hp
    isplitl [Hb]; · iexact Hb
    isplitl [Ht]; · iexact Ht
    iexact Ht'
  iintro ⟨Hk, Hd⟩
  isplitl [Hv Hd]
  · isplitl [Hv]; · iexact Hv
    iexact Hd
  isplitl [Ha]; · iexact Ha
  isplitl [Hk]; · iexact Hk
  iexact Hc

/-- Own chunk `r`: settled and sent. -/
theorem own_run (c : Dev nD) (r : Fin 16) (b : ℕ) :
    iprop(ctx m κ ∗ (conv m c 0 r.val ∗ debt c (owed c r.val b)) ∗ sending c r.val)
      ⊢ runs c (settleOwn c r) iprop((conv m c 0 (r.val + 1) ∗ debt c (owed c (r.val + 1) b)) ∗ sending c (r.val + 1)) := by
  have hs := own_settled m κ c r b
  unfold settleOwn
  by_cases h : r.val + 1 < 16
  · simp only [dif_pos h]
    have hF := fetch_step m κ c 0 r.val (by decide) h (off_in c ⟨r.val + 1, h⟩) (k0_off1_inb c ⟨r.val + 1, h⟩)
    iintro ⟨#HC, ⟨Hv, Hd⟩, Hx⟩
    iapply (runs_seq m κ (R := iprop(debt c (owed c r.val b) ∗ sending c r.val)) hF ?_)
    · iintro ⟨#HC, Hv, Hd, Hx⟩
      iapply hs
      isplitr; · iexact HC
      isplitl [Hv Hd]
      · isplitl [Hv]; · iexact Hv
        iexact Hd
      iexact Hx
    · isplitr; · iexact HC
      isplitl [Hv]; · iexact Hv
      isplitl [Hd]; · iexact Hd
      iexact Hx
  · simp only [dif_neg h]
    iintro ⟨#HC, ⟨Hv, Hd⟩, Hx⟩
    iapply hs
    isplitr; · iexact HC
    isplitl [Hv Hd]
    · isplitl [Hv]; · iapply (ahead_last m c 0 r.val r.isLt h); iexact Hv
      iexact Hd
    iexact Hx

/-- Chunk `r` of the other half: settled. -/
theorem other_run (c : Dev nD) (r : Fin 16) (a b : ℕ) :
    iprop(ctx m κ ∗ (conv m c 1 r.val ∗ debt c (owed c a b)))
      ⊢ runs c (settleOther c r) iprop(conv m c 1 (r.val + 1) ∗ piece m c (othRow c r.val) ∗ debt c (owed c a b)) := by
  have hs := settle_step m κ c 1 r (by decide) a b (k0_off2_inb c r) (off_out' c r) (k0_off5_inb c r) (wordsOth c r)
  unfold settleOther
  by_cases h : r.val + 1 < 16
  · simp only [dif_pos h]
    have hF := fetch_step m κ c 1 r.val (by decide) h (off_in' c ⟨r.val + 1, h⟩) (k0_off2_inb c ⟨r.val + 1, h⟩)
    refine runs_seq m κ hF ?_
    exact hs
  · simp only [dif_neg h]
    iintro ⟨#HC, Hv, Hd⟩
    iapply hs
    isplitr; · iexact HC
    isplitl [Hv]; · iapply (ahead_last m c 1 r.val r.isLt h); iexact Hv
    iexact Hd

/-- Chunk `r` passed on along y, and chunk `r` of the other half settled. -/
theorem pass_run (c : Dev nD) (r : Fin 16) (a : ℕ) (ha : r.val < a) :
    iprop(ctx m κ ∗ state m c a r.val) ⊢ runs c (pass c r) (state m c a (r.val + 1)) := by
  have hF := forward_run m κ c r a ha
  have hO := other_run m κ c r a (r.val + 1)
  unfold state passing pass
  rw [after_take r, before_put r, before_put r]
  unfold toPass
  iintro ⟨#HC, ⟨Hv, Hd⟩, Hx, Hw, ⟨⟨⟨Hc, Hat, Hb, Ht, Ht'⟩, Ha⟩, Hq⟩, Hp⟩
  iapply (runs_seq m κ (R := iprop(conv m c 1 r.val ∗ conv m c 0 a ∗ sending c a ∗ after (r.val + 1) (fun r => toPass c r)
      ∗ before r.val (fun r => iprop(cred (tallyAt (cell c (semSY r)) () narrowUnits) ∗ atPos bookK (cell c (semRX r)) 1 ∅ 0))
      ∗ before r.val (fun r => piece m c (othRow c r.val)))) hF ?_)
  · iintro ⟨#HC, ⟨Hc, Hd, Hat⟩, Hw, Hv, Hx, Ha, Hq, Hp⟩
    iapply (runs_wand (c := c))
    isplitl [Hw Hd]
    · iapply hO
      isplitr; · iexact HC
      isplitl [Hw]; · iexact Hw
      iexact Hd
    iintro ⟨Hw, Ho, Hd⟩
    isplitl [Hv Hd]
    · isplitl [Hv]; · iexact Hv
      iexact Hd
    isplitl [Hx]; · iexact Hx
    isplitl [Hw]; · iexact Hw
    isplitl [Ha Hc Hat Hq]
    · isplitl [Ha]
      · iexact Ha
      isplitl [Hc Hat]
      · isplitl [Hc]; · iexact Hc
        iexact Hat
      iexact Hq
    isplitl [Ho]; · iexact Ho
    iexact Hp
  · isplitr; · iexact HC
    isplitl [Hc Hat Hd Hb Ht Ht']
    · isplitl [Hc]; · iexact Hc
      isplitl [Hat]; · iexact Hat
      isplitl [Hd]; · iexact Hd
      isplitl [Hb]; · iexact Hb
      isplitl [Ht]; · iexact Ht
      iexact Ht'
    isplitl [Hw]; · iexact Hw
    isplitl [Hv]; · iexact Hv
    isplitl [Hx]; · iexact Hx
    isplitl [Ha]
    · iexact Ha
    isplitl [Hq]; · iexact Hq
    iexact Hp

/-- Turn `r`. -/
theorem turn_run (c : Dev nD) (r : Fin 16) :
    iprop(ctx m κ ∗ state m c r.val (r.val - 2)) ⊢ runs c (turn c r) (state m c (r.val + 1) (r.val + 1 - 2)) := by
  have hO := own_run m κ c r (r.val - 2)
  have hR : iprop(ctx m κ ∗ state m c r.val (r.val - 2)) ⊢ iprop(ctx m κ ∗ ((conv m c 0 r.val ∗ debt c (owed c r.val (r.val - 2))) ∗ sending c r.val)
      ∗ (conv m c 1 (r.val - 2) ∗ passing c (r.val - 2) ∗ before (r.val - 2) (fun r => piece m c (othRow c r.val)))) := by
    unfold state
    iintro ⟨#HC, Hv, Hx, H⟩
    isplitr; · iexact HC
    isplitl [Hv Hx]
    · isplitl [Hv]; · iexact Hv
      iexact Hx
    iexact H
  have hB : iprop(ctx m κ ∗ ((conv m c 0 (r.val + 1) ∗ debt c (owed c (r.val + 1) (r.val - 2))) ∗ sending c (r.val + 1))
      ∗ (conv m c 1 (r.val - 2) ∗ passing c (r.val - 2) ∗ before (r.val - 2) (fun r => piece m c (othRow c r.val))))
      ⊢ iprop(ctx m κ ∗ state m c (r.val + 1) (r.val - 2)) := by
    unfold state
    iintro ⟨#HC, ⟨Hv, Hx⟩, H⟩
    isplitr; · iexact HC
    isplitl [Hv]; · iexact Hv
    isplitl [Hx]; · iexact Hx
    iexact H
  refine hR.trans ?_
  unfold turn
  by_cases h : 2 ≤ r.val
  · simp only [dif_pos h]
    refine runs_seq m κ hO (hB.trans ?_)
    have hP := pass_run m κ c ⟨r.val - 2, by omega⟩ (r.val + 1) (by show r.val - 2 < r.val + 1; omega)
    rw [show r.val + 1 - 2 = r.val - 2 + 1 by omega]
    exact hP
  · simp only [dif_neg h]
    refine runs_seq m κ hO (hB.trans ?_)
    rw [show r.val + 1 - 2 = r.val - 2 by omega]
    iintro ⟨-, H⟩
    iapply (runs_pure (c := c)); iexact H

end Cert.KernelIdeal.Gather
end
-- ==== Proof.Whole.lean ====
/-
# The whole kernel of one device

From what a device holds when its kernel starts to what it holds when it ends.
-/
module

public import proofs.«01_k».proof.Proof.Turns

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

variable (m : (ℓ : Loc nD τ sig) → Buf (Elt F) ℓ) (κ : Dev nD × Fin 72 → ℕ)

attribute [local irreducible] firstOf

/-- Half `h` before its first fetch, and after its last chunk. -/
def fresh (c : Dev nD) (h : ℕ) : sProp 𝕄 :=
  iprop((bigSep Finset.univ fun r : Fin 16 => todo m c h r.val) ∗ idle c (slot h 0) 0 ∗ idle c (slot h 1) 0)
/-- Half `h` after its last chunk. -/
def converted (c : Dev nD) (h : ℕ) : sProp 𝕄 :=
  iprop((bigSep Finset.univ fun r : Fin 16 => argPiece m c (inRow c h r.val)) ∗ idle c (slot h 0) 8 ∗ idle c (slot h 1) 8)

/-- After sixteen chunks a half is converted. -/
theorem conv_end (c : Dev nD) (h : ℕ) : conv m c h 16 ⊢ converted m c h := by
  have h16 : slot h 16 = slot h 0 := by unfold slot; split <;> rfl
  have h17 : slot h (16 + 1) = slot h 1 := by unfold slot; split <;> rfl
  unfold conv converted
  rw [before_all, show next (F := F) c h 16 = idle c (slot h 16) (16 / 2) from if_neg (by decide), h16, h17]
  iintro ⟨-, H0, H1, H⟩
  isplitl [H]; · iexact H
  isplitl [H0]; · iexact H0
  iexact H1

/-- The first fetch of a half. -/
theorem first_fetch (c : Dev nD) (h : ℕ) (hh : h < 2) {off : Fin 2 → ℕ} (hoff : off = ![inRow c h 0, 0]) (inb) :
    iprop(ctx m κ ∗ fresh m c h)
      ⊢ runs c (fetch (xArr.slice (Rect.unit (s := S32768x1024) off S1024x1024.size inb) (fun _ => rfl)) (slot h 0)) (conv m c h 0) := by
  have hF := fetch_chunk m κ c h 0 hh (by decide) hoff inb
  have hT : after 0 (fun r => todo m c h r.val) = iprop(todo m c h 0 ∗ after 1 (fun r => todo m c h r.val)) :=
    after_take (0 : Fin 16) (fun r => todo m c h r.val)
  unfold fresh conv
  rw [← after_all, hT, before_none, show next (F := F) c h 0 = fetching c h 0 from if_pos (by decide)]
  iintro ⟨#HC, ⟨Ht, Ha⟩, H0, H1⟩
  iapply (runs_wand (c := c))
  isplitl [Ht H0]
  · iapply hF
    isplitr; · iexact HC
    isplitl [Ht]; · iexact Ht
    iexact H0
  iintro Hf
  isplitl [Ha]; · iexact Ha
  isplitl [Hf]; · iexact Hf
  isplitl [H1]; · iexact H1
  iempintro

/-! ## The last waits -/

/-- After `n` waits for what comes along y. -/
def farAwaited (c : Dev nD) (n : ℕ) : sProp 𝕄 :=
  iprop((after n (fun r => iprop(cred (tallyAt (cell c (semRY r)) () narrowUnits) ∗ atPos bookK (cell c (semRY r)) 0 ∅ 0))
    ∗ before n (fun r => iprop(atPos bookK (cell c (semRY r)) 1 ∅ 0 ∗ piece m c (farRow c r.val)))) ∗ debt c (owed c 16 16))

/-- One more such wait. -/
theorem farAwaited_step (c : Dev nD) (r : Fin 16) :
    iprop(ctx m κ ∗ farAwaited m c r.val) ⊢ runs c (awaitY c r) (farAwaited m c (r.val + 1)) := by
  have hY := awaitY_run m κ c r
  unfold farAwaited
  rw [after_take r, before_put r]
  iintro ⟨#HC, ⟨⟨⟨Hc, Hat⟩, Ha⟩, Hb⟩, Hd⟩
  iapply (runs_wand (c := c))
  isplitl [Hc Hat Hd]
  · iapply hY
    isplitr; · iexact HC
    isplitl [Hc]; · iexact Hc
    isplitl [Hd]; · iexact Hd
    iexact Hat
  iintro ⟨Hd, Hat, -, Hp⟩
  isplitr [Hd]
  · isplitl [Ha]; · iexact Ha
    isplitl [Hat Hp]
    · isplitl [Hat]; · iexact Hat
      iexact Hp
    iexact Hb
  iexact Hd

/-- After `n` waits for what was sent and forwarded. -/
def sentAwaited (c : Dev nD) (n : ℕ) : sProp 𝕄 :=
  iprop((after n (fun r => iprop((cred (tallyAt (cell c (semSX r)) () narrowUnits) ∗ cred (tallyAt (cell c (semSY r)) () narrowUnits))
      ∗ atPos bookK (cell c (semSX r)) 0 ∅ 0 ∗ atPos bookK (cell c (semSY r)) 0 ∅ 0))
    ∗ before n (fun r => iprop((atPos bookK (cell c (semSX r)) 1 ∅ 0 ∗ atPos bookK (cell c (semSY r)) 1 ∅ 0)
      ∗ piece m c (ownRow c r.val) ∗ piece m c (acrossRow c r.val)))) ∗ debt c (owed c 16 16))

/-- One more such wait. -/
theorem sentAwaited_step (c : Dev nD) (r : Fin 16) :
    iprop(ctx m κ ∗ sentAwaited m c r.val) ⊢ runs c (awaitSent c r) (sentAwaited m c (r.val + 1)) := by
  have hS := awaitSent_run m κ c r
  unfold sentAwaited
  rw [after_take r, before_put r]
  iintro ⟨#HC, ⟨⟨⟨⟨Hc, Hc'⟩, Hat, Hat'⟩, Ha⟩, Hb⟩, Hd⟩
  iapply (runs_wand (c := c))
  isplitl [Hc Hat Hd Hc' Hat']
  · iapply hS
    isplitr; · iexact HC
    isplitl [Hc Hat Hd]
    · isplitl [Hc]; · iexact Hc
      isplitl [Hd]; · iexact Hd
      iexact Hat
    isplitl [Hc']; · iexact Hc'
    iexact Hat'
  iintro ⟨Hd, Hat, Hat', Hp, Hp'⟩
  isplitr [Hd]
  · isplitl [Ha]; · iexact Ha
    isplitl [Hat Hat' Hp Hp']
    · isplitl [Hat Hat']
      · isplitl [Hat]; · iexact Hat
        iexact Hat'
      isplitl [Hp]; · iexact Hp
      iexact Hp'
    iexact Hb
  iexact Hd

/-! ## Start and end -/

/-- What a device holds for the copies to and from the other devices when its kernel starts. -/
def tickets (c : Dev nD) : sProp 𝕄 :=
  iprop((bigSep Finset.univ fun r : Fin 16 => toSend c r.val (semSX r) (semRX r))
    ∗ (bigSep Finset.univ fun r : Fin 16 => toPass c r)
    ∗ (bigSep Finset.univ fun r : Fin 16 => iprop(cred (tallyAt (cell c (semRY r)) () narrowUnits) ∗ atPos bookK (cell c (semRY r)) 0 ∅ 0))
    ∗ (bigSep Finset.univ fun r : Fin 16 => iprop(atPos bookK (cell c (semSX r)) 0 ∅ 0 ∗ atPos bookK (cell c (semSY r)) 0 ∅ 0)))

/-- The semaphores of those copies when it ends, all waited for. -/
def spent (c : Dev nD) : sProp 𝕄 :=
  iprop((bigSep Finset.univ fun r : Fin 16 => atPos bookK (cell c (semSX r)) 1 ∅ 0)
    ∗ (bigSep Finset.univ fun r : Fin 16 => atPos bookK (cell c (semRX r)) 1 ∅ 0)
    ∗ (bigSep Finset.univ fun r : Fin 16 => atPos bookK (cell c (semSY r)) 1 ∅ 0)
    ∗ (bigSep Finset.univ fun r : Fin 16 => atPos bookK (cell c (semRY r)) 1 ∅ 0))

/-- The result in its 64 chunks. -/
def pieces (c : Dev nD) : sProp 𝕄 :=
  iprop((bigSep Finset.univ fun r : Fin 16 => piece m c (ownRow c r.val))
    ∗ (bigSep Finset.univ fun r : Fin 16 => piece m c (acrossRow c r.val))
    ∗ (bigSep Finset.univ fun r : Fin 16 => piece m c (othRow c r.val))
    ∗ (bigSep Finset.univ fun r : Fin 16 => piece m c (farRow c r.val)))

/-- The loop with the passes after it, and the last waits. -/
def loop (c : Dev nD) : Run F := do firstOf (turn c) 16 le_rfl; pass c 14; pass c 15
/-- The last waits. -/
def tail (c : Dev nD) : Run F := do firstOf (awaitY c) 16 le_rfl; firstOf (awaitSent c) 16 le_rfl

/-- The loop with its last two passes sends and forwards all sixteen chunks. -/
theorem loop_run (c : Dev nD) :
    iprop(ctx m κ ∗ state m c 0 0) ⊢ runs c (loop c) (state m c 16 16) := by
  have h1 := firstOf_run m κ c (turn c) (fun n => state m c n (n - 2)) (turn_run m κ c) 16 le_rfl
  unfold loop
  have h2 : iprop(ctx m κ ∗ state m c 16 14) ⊢ runs c (pass c 14) (state m c 16 15) := pass_run m κ c 14 16 (by decide)
  have h3 : iprop(ctx m κ ∗ state m c 16 15) ⊢ runs c (pass c 15) (state m c 16 16) := pass_run m κ c 15 16 (by decide)
  exact runs_then m κ h1 (runs_then m κ h2 h3)

/-- The last waits leave every chunk of the result in its place, and nothing owed. -/
theorem tail_run (c : Dev nD) :
    iprop(ctx m κ ∗ state m c 16 16
        ∗ (bigSep Finset.univ fun r : Fin 16 => iprop(cred (tallyAt (cell c (semRY r)) () narrowUnits) ∗ atPos bookK (cell c (semRY r)) 0 ∅ 0))
        ∗ (bigSep Finset.univ fun r : Fin 16 => iprop(atPos bookK (cell c (semSX r)) 0 ∅ 0 ∗ atPos bookK (cell c (semSY r)) 0 ∅ 0)))
      ⊢ runs c (tail c)
          iprop((converted m c 0 ∗ converted m c 1) ∗ spent c ∗ pieces m c ∗ debt c 0) := by
  have hY := firstOf_run m κ c (awaitY c) (farAwaited m c) (farAwaited_step m κ c) 16 le_rfl
  have hS := firstOf_run m κ c (awaitSent c) (sentAwaited m c) (sentAwaited_step m κ c) 16 le_rfl
  unfold farAwaited at hY
  unfold sentAwaited at hS
  rw [after_all, before_none, after_none le_rfl, before_all] at hY hS
  simp only [bigSep_sep'] at hY hS
  unfold state sending passing tail
  rw [after_none le_rfl, after_none le_rfl, before_all, before_all, before_all]
  simp only [bigSep_sep']
  iintro ⟨#HC, ⟨⟨Hv, Hd⟩, ⟨-, Hcx⟩, Hw, ⟨-, Hcy, Hrx⟩, Ho⟩, ⟨Hcr, Hry⟩, Hsx, Hsy⟩
  iapply (runs_seq m κ (R := iprop(conv m c 0 16 ∗ conv m c 1 16
      ∗ (bigSep Finset.univ fun r : Fin 16 => cred (tallyAt (cell c (semSX r)) () narrowUnits))
      ∗ (bigSep Finset.univ fun r : Fin 16 => cred (tallyAt (cell c (semSY r)) () narrowUnits))
      ∗ (bigSep Finset.univ fun r : Fin 16 => atPos bookK (cell c (semRX r)) 1 ∅ 0)
      ∗ (bigSep Finset.univ fun r : Fin 16 => piece m c (othRow c r.val))
      ∗ (bigSep Finset.univ fun r : Fin 16 => atPos bookK (cell c (semSX r)) 0 ∅ 0)
      ∗ (bigSep Finset.univ fun r : Fin 16 => atPos bookK (cell c (semSY r)) 0 ∅ 0))) hY ?_)
  · iintro ⟨#HC, ⟨⟨-, Hry, Hf⟩, Hd⟩, Hv, Hw, Hcx, Hcy, Hrx, Ho, Hsx, Hsy⟩
    iapply (runs_wand (c := c))
    isplitl [Hcx Hcy Hsx Hsy Hd]
    · iapply hS
      isplitr; · iexact HC
      isplitr [Hd]
      · isplitr []
        · isplitl [Hcx Hcy]
          · isplitl [Hcx]; · iexact Hcx
            iexact Hcy
          isplitl [Hsx]; · iexact Hsx
          iexact Hsy
        iempintro
      iexact Hd
    iintro ⟨⟨-, ⟨Hsx, Hsy⟩, Hp, Hq⟩, Hd⟩
    isplitl [Hv Hw]
    · isplitl [Hv]; · iapply (conv_end m c 0); iexact Hv
      iapply (conv_end m c 1); iexact Hw
    unfold spent pieces
    isplitl [Hsx Hsy Hrx Hry]
    · isplitl [Hsx]; · iexact Hsx
      isplitl [Hrx]; · iexact Hrx
      isplitl [Hsy]; · iexact Hsy
      iexact Hry
    isplitr [Hd]
    · isplitl [Hp]; · iexact Hp
      isplitl [Hq]; · iexact Hq
      isplitl [Ho]; · iexact Ho
      iexact Hf
    rw [← owed_end c]; iexact Hd
  · isplitr; · iexact HC
    isplitl [Hcr Hry Hd]
    · isplitr [Hd]
      · isplitl [Hcr Hry]
        · isplitl [Hcr]; · iexact Hcr
          iexact Hry
        iempintro
      iexact Hd
    isplitl [Hv]; · iexact Hv
    isplitl [Hw]; · iexact Hw
    isplitl [Hcx]; · iexact Hcx
    isplitl [Hcy]; · iexact Hcy
    isplitl [Hrx]; · iexact Hrx
    isplitl [Ho]; · iexact Ho
    isplitl [Hsx]; · iexact Hsx
    iexact Hsy

attribute [local irreducible] loop tail

/-- The kernel of device `c`. -/
theorem kernel_run (c : Dev nD) :
    iprop(ctx m κ ∗ (fresh m c 0 ∗ fresh m c 1) ∗ tickets c ∗ debt c (owed c 0 0))
      ⊢ runs c (kernelRun c) iprop((converted m c 0 ∗ converted m c 1) ∗ spent c ∗ pieces m c ∗ debt c 0) := by
  have h0 := first_fetch m κ c 0 (by decide) (off_in c 0) (k0_off1_inb c 0)
  have h1 := first_fetch m κ c 1 (by decide) (off_in' c 0) (k0_off2_inb c 0)
  have hT := tail_run m κ c
  have hL := loop_run m κ c
  have hA : kernelRun (F := F) c = (do fetch (inOwn c 0) (slotOwn 0); fetch (inOth c 0) (slotOth 0); loop c; tail c) := by
    unfold kernelRun loop tail
    simp only [bind_assoc]
  rw [hA]
  unfold tickets
  iintro ⟨#HC, ⟨H0, H1⟩, ⟨Hx, Hy, Hr, Hs⟩, Hd⟩
  iapply (runs_seq m κ (R := iprop(fresh m c 1 ∗ (bigSep Finset.univ fun r : Fin 16 => toSend c r.val (semSX r) (semRX r))
    ∗ (bigSep Finset.univ fun r : Fin 16 => toPass c r)
    ∗ (bigSep Finset.univ fun r : Fin 16 => iprop(cred (tallyAt (cell c (semRY r)) () narrowUnits) ∗ atPos bookK (cell c (semRY r)) 0 ∅ 0))
    ∗ (bigSep Finset.univ fun r : Fin 16 => iprop(atPos bookK (cell c (semSX r)) 0 ∅ 0 ∗ atPos bookK (cell c (semSY r)) 0 ∅ 0))
    ∗ debt c (owed c 0 0))) h0 ?_)
  · iintro ⟨#HC, H0, H1, Hx, Hy, Hr, Hs, Hd⟩
    iapply (runs_seq m κ (R := iprop(conv m c 0 0 ∗ (bigSep Finset.univ fun r : Fin 16 => toSend c r.val (semSX r) (semRX r))
      ∗ (bigSep Finset.univ fun r : Fin 16 => toPass c r)
      ∗ (bigSep Finset.univ fun r : Fin 16 => iprop(cred (tallyAt (cell c (semRY r)) () narrowUnits) ∗ atPos bookK (cell c (semRY r)) 0 ∅ 0))
      ∗ (bigSep Finset.univ fun r : Fin 16 => iprop(atPos bookK (cell c (semSX r)) 0 ∅ 0 ∗ atPos bookK (cell c (semSY r)) 0 ∅ 0))
      ∗ debt c (owed c 0 0))) h1 ?_)
    · iintro ⟨#HC, H1, H0, Hx, Hy, Hr, Hs, Hd⟩
      iapply (runs_seq m κ hL hT)
      isplitr; · iexact HC
      isplitr [Hr Hs]
      · unfold state sending passing
        rw [after_all, after_all, before_none, before_none, before_none]
        isplitl [H0 Hd]
        · isplitl [H0]; · iexact H0
          iexact Hd
        isplitl [Hx]
        · isplitl [Hx]; · iexact Hx
          iempintro
        isplitl [H1]; · iexact H1
        isplitl [Hy]
        · isplitl [Hy]; · iexact Hy
          iempintro
        iempintro
      isplitl [Hr]; · iexact Hr
      iexact Hs
    · isplitr; · iexact HC
      isplitl [H1]; · iexact H1
      isplitl [H0]; · iexact H0
      isplitl [Hx]; · iexact Hx
      isplitl [Hy]; · iexact Hy
      isplitl [Hr]; · iexact Hr
      isplitl [Hs]; · iexact Hs
      iexact Hd
  · isplitr; · iexact HC
    isplitl [H0]; · iexact H0
    isplitl [H1]; · iexact H1
    isplitl [Hx]; · iexact Hx
    isplitl [Hy]; · iexact Hy
    isplitl [Hr]; · iexact Hr
    isplitl [Hs]; · iexact Hs
    iexact Hd

end Cert.KernelIdeal.Gather
end
-- ==== Proof.Pieces.lean ====
/-
# Arrays in chunks, staging buffers in slots

The argument of a device is 32 chunks of 1024 rows, its result 64, and each staging buffer four slots. This module splits
the whole buffers into these parts and puts them together again.
-/
module

public import proofs.«01_k».proof.Proof.Whole

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

variable (m : (ℓ : Loc nD τ sig) → Buf (Elt F) ℓ)

/-- Four parts, one by one. -/
theorem four_parts (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- Two things side by side. -/
theorem two_parts (Φ : Fin 2 → sProp 𝕄) : bigSep Finset.univ Φ = iprop(Φ 0 ∗ Φ 1) :=
  bigSep_univ_eq_bigSepL [0, 1] (by decide) (by decide) Φ

/-! ## Chunks of rows -/

section
variable {T : Type} [Fintype T] [DecidableEq T] (c : Dev nD) (o : T → ℕ) (apart : ∀ t t', t ≠ t' → o t + 1024 ≤ o t' ∨ o t' + 1024 ≤ o t)
include apart

/-- The argument is its chunks of rows, when these are apart from one another and cover all rows. -/
theorem arg_chunks (all : ∀ i < 32768, ∃ t, o t ≤ i ∧ i < o t + 1024) (f : Buf (Elt F) (argAt c)) :
    (argAt c ↦{fullShare} f : sProp 𝕄) = bigSep Finset.univ fun t => argAt c ↦[argRows (o t) c]{fullShare} f := by
  have hU : (Finset.univ : Finset (Idx (argAt c))) = Finset.univ.biUnion fun t => argRows (o t) c := by
    ext i
    obtain ⟨t, ht⟩ := all (i 0).val (i 0).isLt
    exact ⟨fun _ => Finset.mem_biUnion.mpr ⟨t, Finset.mem_univ _, Finset.mem_filter.mpr ⟨Finset.mem_univ _, ht⟩⟩, fun _ => Finset.mem_univ _⟩
  show (argAt c ↦[Finset.univ]{fullShare} f : sProp 𝕄) = _
  rw [hU]
  refine pointsTo_biUnion _ _ fun t _ t' _ hne => Finset.disjoint_left.mpr fun i hi hi' => ?_
  have h1 := (Finset.mem_filter.mp hi).2
  have h2 := (Finset.mem_filter.mp hi').2
  rcases apart t t' hne with h | h <;> omega

/-- The result is its chunks of rows, when these are apart from one another and cover all rows. -/
theorem res_chunks (all : ∀ i < 65536, ∃ t, o t ≤ i ∧ i < o t + 1024) (f : Buf (Elt F) (resAt c)) :
    (resAt c ↦{fullShare} f : sProp 𝕄) = bigSep Finset.univ fun t => resAt c ↦[resRows (o t) c]{fullShare} f := by
  have hU : (Finset.univ : Finset (Idx (resAt c))) = Finset.univ.biUnion fun t => resRows (o t) c := by
    ext i
    obtain ⟨t, ht⟩ := all (i 0).val (i 0).isLt
    exact ⟨fun _ => Finset.mem_biUnion.mpr ⟨t, Finset.mem_univ _, Finset.mem_filter.mpr ⟨Finset.mem_univ _, ht⟩⟩, fun _ => Finset.mem_univ _⟩
  show (resAt c ↦[Finset.univ]{fullShare} f : sProp 𝕄) = _
  rw [hU]
  refine pointsTo_biUnion _ _ fun t _ t' _ hne => Finset.disjoint_left.mpr fun i hi hi' => ?_
  have h1 := (Finset.mem_filter.mp hi).2
  have h2 := (Finset.mem_filter.mp hi').2
  rcases apart t t' hne with h | h <;> omega

end

/-- The argument is the chunks of its two halves. -/
theorem arg_halves (c : Dev nD) :
    (argAt c ↦{fullShare} m (argAt c) : sProp 𝕄)
      = iprop((bigSep Finset.univ fun r : Fin 16 => argPiece m c (inRow c 0 r.val)) ∗ bigSep Finset.univ fun r : Fin 16 => argPiece m c (inRow c 1 r.val)) := by
  have hc : c.val < 4 := c.isLt
  rw [arg_chunks (T := Fin 2 × Fin 16) c (fun p => inRow c p.1.val p.2.val) ?_ ?_ (m (argAt c)), bigSep_univ_prod, two_parts]
  · rfl
  · rintro ⟨h, r⟩ ⟨h', r'⟩ hne
    have hh := h.isLt; have hh' := h'.isLt; have hr := r.isLt; have hr' := r'.isLt
    have hne' : h.val ≠ h'.val ∨ r.val ≠ r'.val := by
      by_contra hcon
      exact hne (Prod.ext (Fin.ext (show h.val = h'.val by omega)) (Fin.ext (show r.val = r'.val by omega)))
    show inRow c h.val r.val + 1024 ≤ inRow c h'.val r'.val ∨ inRow c h'.val r'.val + 1024 ≤ inRow c h.val r.val
    unfold inRow
    split <;> split <;> omega
  · intro i hi
    refine ⟨(⟨(i / 16384 + c.val % 2) % 2, by omega⟩, ⟨i % 16384 / 1024, by omega⟩), ?_⟩
    show inRow c ((i / 16384 + c.val % 2) % 2) (i % 16384 / 1024) ≤ i ∧ i < inRow c ((i / 16384 + c.val % 2) % 2) (i % 16384 / 1024) + 1024
    unfold inRow
    split <;> omega

/-- The first row of chunk `r` of the `t`-th kind. -/
def kindRow (c : Dev nD) (t r : ℕ) : ℕ :=
  if t = 0 then ownRow c r else if t = 1 then acrossRow c r else if t = 2 then othRow c r else farRow c r

/-- The result is its chunks of the four kinds. -/
theorem res_kinds (c : Dev nD) (f : Buf (Elt F) (resAt c)) :
    (resAt c ↦{fullShare} f : sProp 𝕄)
      = iprop((bigSep Finset.univ fun r : Fin 16 => resAt c ↦[resRows (ownRow c r.val) c]{fullShare} f)
        ∗ (bigSep Finset.univ fun r : Fin 16 => resAt c ↦[resRows (acrossRow c r.val) c]{fullShare} f)
        ∗ (bigSep Finset.univ fun r : Fin 16 => resAt c ↦[resRows (othRow c r.val) c]{fullShare} f)
        ∗ (bigSep Finset.univ fun r : Fin 16 => resAt c ↦[resRows (farRow c r.val) c]{fullShare} f)) := by
  have hc : c.val < 4 := c.isLt
  obtain ⟨hy1, hy2⟩ := ny_half c
  rw [res_chunks (T := Fin 4 × Fin 16) c (fun p => kindRow c p.1.val p.2.val) ?_ ?_ f, bigSep_univ_prod, four_parts]
  · rfl
  · rintro ⟨h, r⟩ ⟨h', r'⟩ hne
    have hh := h.isLt; have hh' := h'.isLt; have hr := r.isLt; have hr' := r'.isLt
    have hne' : h.val ≠ h'.val ∨ r.val ≠ r'.val := by
      by_contra hcon
      exact hne (Prod.ext (Fin.ext (show h.val = h'.val by omega)) (Fin.ext (show r.val = r'.val by omega)))
    show kindRow c h.val r.val + 1024 ≤ kindRow c h'.val r'.val ∨ kindRow c h'.val r'.val + 1024 ≤ kindRow c h.val r.val
    unfold kindRow farRow ownRow acrossRow othRow
    rw [hy1, hy2]
    (repeat' split) <;> omega
  · intro i hi
    by_cases hx : i / 32768 = c.val / 2
    · by_cases hy : i % 32768 / 16384 = c.val % 2
      · refine ⟨(0, ⟨i % 16384 / 1024, by omega⟩), ?_⟩
        show ownRow c (i % 16384 / 1024) ≤ i ∧ i < ownRow c (i % 16384 / 1024) + 1024
        unfold ownRow; omega
      · refine ⟨(2, ⟨i % 16384 / 1024, by omega⟩), ?_⟩
        show othRow c (i % 16384 / 1024) ≤ i ∧ i < othRow c (i % 16384 / 1024) + 1024
        unfold othRow; omega
    · by_cases hy : i % 32768 / 16384 = c.val % 2
      · refine ⟨(1, ⟨i % 16384 / 1024, by omega⟩), ?_⟩
        show acrossRow c (i % 16384 / 1024) ≤ i ∧ i < acrossRow c (i % 16384 / 1024) + 1024
        unfold acrossRow; omega
      · refine ⟨(3, ⟨i % 16384 / 1024, by omega⟩), ?_⟩
        show farRow c (i % 16384 / 1024) ≤ i ∧ i < farRow c (i % 16384 / 1024) + 1024
        unfold farRow acrossRow; rw [hy1, hy2]; omega

/-- The result, gathered, is its pieces. -/
theorem res_pieces (c : Dev nD) : (resAt c ↦{fullShare} gathered m c : sProp 𝕄) = pieces m c := res_kinds c _

/-- The result at some contents is blank chunks. -/
theorem res_blanks (c : Dev nD) (f : Buf (Elt F) (resAt c)) :
    (resAt c ↦{fullShare} f : sProp 𝕄)
      ⊢ iprop((bigSep Finset.univ fun r : Fin 16 => blank (F := F) c (ownRow c r.val))
        ∗ (bigSep Finset.univ fun r : Fin 16 => blank (F := F) c (acrossRow c r.val))
        ∗ (bigSep Finset.univ fun r : Fin 16 => blank (F := F) c (othRow c r.val))
        ∗ (bigSep Finset.univ fun r : Fin 16 => blank (F := F) c (farRow c r.val))) := by
  have h (o : ℕ) : (resAt c ↦[resRows o c]{fullShare} f : sProp 𝕄) ⊢ blank (F := F) c o := by
    unfold blank; iintro H; iexists f; iexact H
  rw [res_kinds]
  exact BI.sep_mono (bigSep_mono fun r _ => h _) (BI.sep_mono (bigSep_mono fun r _ => h _) (BI.sep_mono (bigSep_mono fun r _ => h _) (bigSep_mono fun r _ => h _)))

/-! ## Slots -/

theorem wide_mem (c : Dev nD) (s : Fin 4) (i : Idx ((c.tc : Thread nD τ).loc cc0_scratch0)) :
    i ∈ (wide s).view.set ↔ (i 0).val = s.val := by
  rw [show (wide s).view.set = (wideBuf.slice (slotRect s) (fun _ => rfl)).view.set from View.set_reshape _ _]
  refine (ValueKit.mem_set_slice_whole_iff cc0_scratch0 _ i Rect.mem_set_unit).trans ?_
  have h1 : (i 1).val < 1024 := (i 1).isLt
  have h2 : (i 2).val < 1024 := (i 2).isLt
  refine ⟨fun h => ?_, fun h a => ?_⟩
  · have h0 : s.val ≤ (i 0).val ∧ (i 0).val < s.val + 1 := h 0
    omega
  · match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

/-- The cells of bf16 slot `s`. -/
theorem narrow_mem (c : Dev nD) (s : Fin 4) (i : Idx ((c.tc : Thread nD τ).loc cc0_scratch1)) :
    i ∈ (narrow s).view.set ↔ (i 0).val = s.val := by
  rw [show (narrow s).view.set = (narrowBuf.slice (slotRect s) (fun _ => rfl)).view.set from View.set_reshape _ _]
  refine (ValueKit.mem_set_slice_whole_iff cc0_scratch1 _ i Rect.mem_set_unit).trans ?_
  have h1 : (i 1).val < 1024 := (i 1).isLt
  have h2 : (i 2).val < 1024 := (i 2).isLt
  refine ⟨fun h => ?_, fun h a => ?_⟩
  · have h0 : s.val ≤ (i 0).val ∧ (i 0).val < s.val + 1 := h 0
    omega
  · match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

/-- The wide staging buffer at some contents is its four slots at some contents. -/
theorem wide_slots (c : Dev nD) :
    (iprop(∃ f : Buf (Elt F) ((c.tc : Thread nD τ).loc cc0_scratch0), ((c.tc : Thread nD τ).loc cc0_scratch0) ↦{fullShare} f) : sProp 𝕄)
      = bigSep Finset.univ fun s : Fin 4 => iprop(∃ f, wideAt (F := F) c s f) := by
  have hU : (Finset.univ : Finset (Idx ((c.tc : Thread nD τ).loc cc0_scratch0))) = Finset.univ.biUnion fun s : Fin 4 => (wide s).view.set := by
    ext i
    exact ⟨fun _ => Finset.mem_biUnion.mpr ⟨⟨(i 0).val, (i 0).isLt⟩, Finset.mem_univ _, (wide_mem c _ i).mpr rfl⟩, fun _ => Finset.mem_univ _⟩
  have hd : ∀ s ∈ (Finset.univ : Finset (Fin 4)), ∀ s' ∈ (Finset.univ : Finset (Fin 4)), s ≠ s' →
      Disjoint ((wide s).view.set : Finset (Idx ((c.tc : Thread nD τ).loc cc0_scratch0))) (wide s').view.set := fun s _ s' _ hne =>
    Finset.disjoint_left.mpr fun i hi hi' => hne (Fin.ext (((wide_mem c s i).mp hi).symm.trans ((wide_mem c s' i).mp hi')))
  refine BI.equiv_iff.mp ⟨?_, ?_⟩
  · show iprop(∃ f : Buf (Elt F) ((c.tc : Thread nD τ).loc cc0_scratch0), ((c.tc : Thread nD τ).loc cc0_scratch0) ↦{fullShare} f) ⊢ bigSep Finset.univ fun s : Fin 4 => iprop(∃ f, wideAt (F := F) c s f)
    iintro ⟨%f, H⟩
    ihave H := (show (((c.tc : Thread nD τ).loc cc0_scratch0) ↦{fullShare} f : sProp 𝕄) ⊢ bigSep Finset.univ fun s : Fin 4 => iprop(∃ f, wideAt (F := F) c s f) from by
      show (((c.tc : Thread nD τ).loc cc0_scratch0) ↦[Finset.univ]{fullShare} f : sProp 𝕄) ⊢ _
      rw [hU, pointsTo_biUnion _ _ hd]
      refine bigSep_mono fun s _ => ?_
      show wideAt (F := F) c s f ⊢ iprop(∃ f, wideAt (F := F) c s f)
      iintro H; iexists f; iexact H) $$ H
    iexact H
  · haveI (s : Fin 4) : Nonempty (Buf (Elt F) ((wide s).view.loc (c.tc : Thread nD τ))) := ⟨fun _ => FloatOps.ofBits .f32 0⟩
    refine (BI.bigSep_exists_pi Finset.univ fun s f => wideAt (F := F) c s f).trans ?_
    iintro ⟨%fs, H⟩
    ihave H := (pointsTo_biUnion_join (q := fullShare) (Finset.univ : Finset (Fin 4)) (fun s => ((wide s).view.set : Finset (Idx ((c.tc : Thread nD τ).loc cc0_scratch0)))) fs (fs 0) hd) $$ H
    icases H with ⟨%g, -, H⟩
    iexists g
    ihave H := (Entails.of_eq (congrArg (fun I => (((c.tc : Thread nD τ).loc cc0_scratch0) ↦[I]{fullShare} g : sProp 𝕄)) hU.symm)) $$ H
    iexact H

/-- The narrow staging buffer at some contents is its four slots at some contents. -/
theorem narrow_slots (c : Dev nD) :
    (iprop(∃ f : Buf (Elt F) ((c.tc : Thread nD τ).loc cc0_scratch1), ((c.tc : Thread nD τ).loc cc0_scratch1) ↦{fullShare} f) : sProp 𝕄)
      = bigSep Finset.univ fun s : Fin 4 => iprop(∃ f, narrowAt (F := F) c s f) := by
  have hU : (Finset.univ : Finset (Idx ((c.tc : Thread nD τ).loc cc0_scratch1))) = Finset.univ.biUnion fun s : Fin 4 => (narrow s).view.set := by
    ext i
    exact ⟨fun _ => Finset.mem_biUnion.mpr ⟨⟨(i 0).val, (i 0).isLt⟩, Finset.mem_univ _, (narrow_mem c _ i).mpr rfl⟩, fun _ => Finset.mem_univ _⟩
  have hd : ∀ s ∈ (Finset.univ : Finset (Fin 4)), ∀ s' ∈ (Finset.univ : Finset (Fin 4)), s ≠ s' →
      Disjoint ((narrow s).view.set : Finset (Idx ((c.tc : Thread nD τ).loc cc0_scratch1))) (narrow s').view.set := fun s _ s' _ hne =>
    Finset.disjoint_left.mpr fun i hi hi' => hne (Fin.ext (((narrow_mem c s i).mp hi).symm.trans ((narrow_mem c s' i).mp hi')))
  refine BI.equiv_iff.mp ⟨?_, ?_⟩
  · show iprop(∃ f : Buf (Elt F) ((c.tc : Thread nD τ).loc cc0_scratch1), ((c.tc : Thread nD τ).loc cc0_scratch1) ↦{fullShare} f) ⊢ bigSep Finset.univ fun s : Fin 4 => iprop(∃ f, narrowAt (F := F) c s f)
    iintro ⟨%f, H⟩
    ihave H := (show (((c.tc : Thread nD τ).loc cc0_scratch1) ↦{fullShare} f : sProp 𝕄) ⊢ bigSep Finset.univ fun s : Fin 4 => iprop(∃ f, narrowAt (F := F) c s f) from by
      show (((c.tc : Thread nD τ).loc cc0_scratch1) ↦[Finset.univ]{fullShare} f : sProp 𝕄) ⊢ _
      rw [hU, pointsTo_biUnion _ _ hd]
      refine bigSep_mono fun s _ => ?_
      show narrowAt (F := F) c s f ⊢ iprop(∃ f, narrowAt (F := F) c s f)
      iintro H; iexists f; iexact H) $$ H
    iexact H
  · haveI (s : Fin 4) : Nonempty (Buf (Elt F) ((narrow s).view.loc (c.tc : Thread nD τ))) := ⟨fun _ => FloatOps.ofBits .bf16 0⟩
    refine (BI.bigSep_exists_pi Finset.univ fun s f => narrowAt (F := F) c s f).trans ?_
    iintro ⟨%fs, H⟩
    ihave H := (pointsTo_biUnion_join (q := fullShare) (Finset.univ : Finset (Fin 4)) (fun s => ((narrow s).view.set : Finset (Idx ((c.tc : Thread nD τ).loc cc0_scratch1)))) fs (fs 0) hd) $$ H
    icases H with ⟨%g, -, H⟩
    iexists g
    ihave H := (Entails.of_eq (congrArg (fun I => (((c.tc : Thread nD τ).loc cc0_scratch1) ↦[I]{fullShare} g : sProp 𝕄)) hU.symm)) $$ H
    iexact H

/-! ## Semaphores by family -/

/-- Different slots have different semaphores for fetches. -/
theorem semIn_inj : Function.Injective semIn := by decide
/-- And for the copies out. -/
theorem semOut_inj : Function.Injective semOut := by decide
/-- Different chunks have different semaphores for the sends along x. -/
theorem semSX_inj : Function.Injective semSX := by decide
/-- And for the arrivals along x. -/
theorem semRX_inj : Function.Injective semRX := by decide
/-- And for the sends along y. -/
theorem semSY_inj : Function.Injective semSY := by decide
/-- And for the arrivals along y. -/
theorem semRY_inj : Function.Injective semRY := by decide

/-- A holding per semaphore is one per semaphore of each family. -/
theorem all_sems (Φ : Fin 72 → sProp 𝕄) :
    bigSep Finset.univ Φ
      = iprop((bigSep Finset.univ fun s => Φ (semIn s)) ∗ (bigSep Finset.univ fun s => Φ (semOut s))
        ∗ (bigSep Finset.univ fun r => Φ (semSX r)) ∗ (bigSep Finset.univ fun r => Φ (semRX r))
        ∗ (bigSep Finset.univ fun r => Φ (semSY r)) ∗ (bigSep Finset.univ fun r => Φ (semRY r))) := by
  have hU : (Finset.univ : Finset (Fin 72)) = Finset.univ.map ⟨semIn, semIn_inj⟩ ∪ (Finset.univ.map ⟨semOut, semOut_inj⟩
      ∪ (Finset.univ.map ⟨semSX, semSX_inj⟩ ∪ (Finset.univ.map ⟨semRX, semRX_inj⟩
      ∪ (Finset.univ.map ⟨semSY, semSY_inj⟩ ∪ Finset.univ.map ⟨semRY, semRY_inj⟩)))) := by decide
  rw [hU, BI.bigSep_union (by decide), BI.bigSep_union (by decide), BI.bigSep_union (by decide), BI.bigSep_union (by decide), BI.bigSep_union (by decide)]
  simp only [bigSep_map]
  rfl

end Cert.KernelIdeal.Gather
end
-- ==== Proof.Ends.lean ====
/-
# The end of the kernel, and the kernel as one step

Every semaphore is waited for as often as it is signalled, so each is back at zero when the kernel ends. This module returns
the semaphores, the staging buffers and the arrays whole, and states the kernel of one device as a single step.
-/
module

public import proofs.«01_k».proof.Proof.Pieces
public import Idealize.ShloMosaic.Lib.Pipeline.FrameBody

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

open Idealize.ShloMosaic.Pipeline (Dat BodyObligation)

variable (m : (ℓ : Loc nD τ sig) → Buf (Elt F) ℓ)

attribute [local irreducible] firstOf kernelRun

/-- The kernel's semaphores by number. -/
abbrev osem (q : Fin 72) : SemLoc sig := .dma q

/-- The kernel's semaphores are those it allocates, each once. -/
theorem ownSemFacts : Pipeline.OwnSemFacts cfg0.spec osem := by decide

/-- What a device uses up of semaphores at launch, each at zero. -/
theorem ownSems0_eq (c : Dev nD) : (Pipeline.ownSems0 (Ix := Unit) (Name := ℕ) (U := Books) (Lvl := ℕ) (Val := Elt F) (τ := τ) osem c : sProp 𝕄)
    = bigSep Finset.univ fun q : Fin 72 => semVal (cell c q) 0 := rfl

/-- A holding per index beside what can be used again and again. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have hR : R ⊢ bigSep S fun _ => R := BI.bigSep_intro_persistent fun _ _ => Entails.refl _
  refine (BI.sep_mono hR (Entails.refl _)).trans ?_
  show iprop((bigSep S fun _ => R) ∗ bigSep S Φ) ⊢ bigSep S Ψ
  rw [← bigSep_sep']
  exact bigSep_mono h

/-! ## Back to zero -/

section
variable (κ : Dev nD × Fin 72 → ℕ)

/-- A semaphore after its last round is at zero. -/
theorem close_one (c : Dev nD) (q : Fin 72) :
    iprop(ctx m κ ∗ atPos bookK (cell c q) (rounds q) ∅ 0) ⊢ (|={Set.univ}=> semVal (cell c q) 0 : sProp 𝕄) := by
  have h := Rounds.cell_close (Es := Set.univ) bookK (book m) (g := cell c q) (Set.mem_univ (κ (c, q))) (fun h => h) (R := rounds q) (no_duty m c q)
  iintro ⟨#HC, H⟩
  iapply h
  isplitr; · iapply (ctx_inv m κ c q); iexact HC
  iexact H

/-- So are all semaphores of a device. -/
theorem close_all (c : Dev nD) :
    iprop(ctx m κ ∗ bigSep Finset.univ fun q : Fin 72 => atPos bookK (cell c q) (rounds q) ∅ 0)
      ⊢ (|={Set.univ}=> bigSep Finset.univ fun q : Fin 72 => semVal (cell c q) 0 : sProp 𝕄) :=
  (each_with fun q _ => close_one m κ c q).trans (bigSep_fupd _ _)

/-- Two halves converted, and every other semaphore waited for: every semaphore is at its last round, and the arrays and
    staging buffers are whole. -/
theorem gather_up (c : Dev nD) :
    iprop((converted m c 0 ∗ converted m c 1) ∗ spent c)
      ⊢ iprop((bigSep Finset.univ fun q : Fin 72 => atPos bookK (cell c q) (rounds q) ∅ 0)
        ∗ (argAt c ↦{fullShare} m (argAt c)) ∗ Pipeline.scopedRest cfg0.spec c : sProp 𝕄) := by
  rw [scopedRest0_eq, all_sems, arg_halves]
  have h1 := (wide_slots (F := F) c).trans (four_parts _)
  have h2 := (narrow_slots (F := F) c).trans (four_parts _)
  rw [h1, h2, four_parts, four_parts]
  simp only [rounds_in, rounds_out, rounds_sx, rounds_rx, rounds_sy, rounds_ry]
  unfold converted spent idle
  rw [show slot 0 0 = 0 from rfl, show slot 0 1 = 1 from rfl, show slot 1 0 = 2 from rfl, show slot 1 1 = 3 from rfl]
  iintro ⟨⟨⟨Ha, ⟨Hw0, Hn0, Hi0, Ho0, -, -⟩, Hw1, Hn1, Hi1, Ho1, -, -⟩, Hb, ⟨Hw2, Hn2, Hi2, Ho2, -, -⟩, Hw3, Hn3, Hi3, Ho3, -, -⟩, Hsx, Hrx, Hsy, Hry⟩
  isplitl [Hi0 Hi1 Hi2 Hi3 Ho0 Ho1 Ho2 Ho3 Hsx Hrx Hsy Hry]
  · isplitl [Hi0 Hi1 Hi2 Hi3]
    · isplitl [Hi0]; · iexact Hi0
      isplitl [Hi1]; · iexact Hi1
      isplitl [Hi2]; · iexact Hi2
      iexact Hi3
    isplitl [Ho0 Ho1 Ho2 Ho3]
    · isplitl [Ho0]; · iexact Ho0
      isplitl [Ho1]; · iexact Ho1
      isplitl [Ho2]; · iexact Ho2
      iexact Ho3
    isplitl [Hsx]; · iexact Hsx
    isplitl [Hrx]; · iexact Hrx
    isplitl [Hsy]; · iexact Hsy
    iexact Hry
  isplitl [Ha Hb]
  · isplitl [Ha]; · iexact Ha
    iexact Hb
  isplitl [Hw0 Hw1 Hw2 Hw3]
  · isplitl [Hw0]; · iexact Hw0
    isplitl [Hw1]; · iexact Hw1
    isplitl [Hw2]; · iexact Hw2
    iexact Hw3
  isplitl [Hn0]; · iexact Hn0
  isplitl [Hn1]; · iexact Hn1
  isplitl [Hn2]; · iexact Hn2
  iexact Hn3

end

/-! ## The kernel as one step -/

/-- What device `c` holds when its kernel starts. -/
def atStart (c : Dev nD) : sProp 𝕄 :=
  iprop(∃ κ : Dev nD × Fin 72 → ℕ, ctx m κ ∗ (fresh m c 0 ∗ fresh m c 1) ∗ tickets c)
/-- What is read off when everything has ended: the argument as launched, the result gathered. -/
def readOff (c : Dev nD) : sProp 𝕄 :=
  iprop((argAt c ↦{fullShare} m (argAt c)) ∗ (resAt c ↦{fullShare} gathered m c))
/-- What device `c` holds when its kernel ends. -/
def atEnd (c : Dev nD) : sProp 𝕄 :=
  iprop(readOff m c ∗ (bigSep Finset.univ fun q : Fin 72 => semVal (cell c q) 0) ∗ Pipeline.scopedRest cfg0.spec c)

/-- The kernel of one device, from its start to its end, pays all that it owes. -/
theorem kernel_whole (c : Dev nD) :
    iprop(atStart m c ∗ debt c (owed c 0 0)) ⊢ runs c (Prog.lift .deviceId >>= fun d => kernelRun d) iprop(atEnd m c ∗ debt c 0) := by
  have hrun (κ : Dev nD × Fin 72 → ℕ) := kernel_run m κ c
  have hclose (κ : Dev nD × Fin 72 → ℕ) := close_all m κ c
  have hup := gather_up m c
  have hid : runs c (kernelRun (F := F) c) iprop(atEnd m c ∗ debt c 0)
      ⊢ runs c (Prog.lift .deviceId >>= fun d => kernelRun d) iprop(atEnd m c ∗ debt c 0) := by
    unfold runs Prog.lift
    rw [Prog.bind_op, wp_deviceId]
    exact Entails.refl _
  refine BI.Entails.trans ?_ hid
  have hfup : runs c (kernelRun (F := F) c) iprop(|={Set.univ}=> (atEnd m c ∗ debt c 0)) ⊢ runs c (kernelRun c) iprop(atEnd m c ∗ debt c 0) :=
    wp_fupd _ _ _ _ _
  refine BI.Entails.trans ?_ hfup
  unfold atStart
  show iprop((∃ κ, ctx m κ ∗ (fresh m c 0 ∗ fresh m c 1) ∗ tickets c) ∗ debt c (owed c 0 0))
    ⊢ runs c (kernelRun (F := F) c) iprop(|={Set.univ}=> (atEnd m c ∗ debt c 0))
  iintro ⟨⟨%κ, #HC, Hf, Ht⟩, Hd⟩
  iapply (runs_wand (c := c))
  isplitl [Hf Ht Hd]
  · iapply (hrun κ)
    isplitr; · iexact HC
    isplitl [Hf]; · iexact Hf
    isplitl [Ht]; · iexact Ht
    iexact Hd
  iintro ⟨Hconv, Hsp, Hp, Hd⟩
  ihave H := hup $$ [Hconv Hsp]
  · isplitl [Hconv]; · iexact Hconv
    iexact Hsp
  icases H with ⟨Hat, Harg, Hs⟩
  imod (hclose κ) $$ [Hat] with Hz
  · isplitr; · iexact HC
    iexact Hat
  imodintro
  unfold atEnd readOff
  rw [res_pieces]
  isplitr [Hd]
  · isplitl [Harg Hp]
    · isplitl [Harg]; · iexact Harg
      iexact Hp
    isplitl [Hz]; · iexact Hz
    iexact Hs
  iexact Hd

/-- The proof data of the kernel's region: what a device holds and owes before and after its one step. -/
def dats (_ : Fin 1) (c : Dev nD) : Dat τ (Elt F) Unit ℕ Books ℕ cfg0 c where
  A w := w.elim0
  after w _ := w.elim0
  Φ t := match t with
    | ⟨0, _⟩ => atStart m c
    | ⟨_ + 1, _⟩ => atEnd m c
  q _ := fullShare
  owed t := match t with
    | ⟨0, _⟩ => owed c 0 0
    | ⟨_ + 1, _⟩ => 0

/-- The region's step at a point is the kernel of that point. -/
theorem step_body (t : Fin cfg0.N) : defs₀ (F := F) .tc cfg0.body (cfg0.bodyArgs t (cfg0.slots t)) = bodyAt0 t := by
  unfold defs₀; rw [Defs.onTc_tc]

/-- The one step, from what a device holds and owes before it to what it holds and owes after it. -/
theorem step_run (c : Dev nD) :
    iprop(atStart m c ∗ (dats m 0 c).owesAt () t0_0.castSucc ∗ emp)
      ⊢ wp frame (wpE (defs₀ (F := F)) noLoops (c.tc : Thread nD τ) none) Set.univ (bodyAt0 t0_0)
          fun _ => iprop(atEnd m c ∗ (dats m 0 c).owesAt () t0_0.succ ∗ emp) := by
  have hrun := kernel_whole m c
  have hin : ((dats m 0 c).owesAt () t0_0.castSucc : sProp 𝕄) ⊢ debt c (owed c 0 0) := by
    unfold Dat.owesAt Pipeline.owesWithin debt
    iintro ⟨%W, -, H⟩
    iexists W; iexact H
  have hout : debt c 0 ⊢ ((dats m 0 c).owesAt () t0_0.succ : sProp 𝕄) := by
    unfold Dat.owesAt Pipeline.owesWithin debt
    iintro ⟨%W, H⟩
    iexists W
    isplitr; · ipureintro; exact fun _ _ => Or.inl trivial
    iexact H
  rw [body_eq]
  refine BI.Entails.trans ?_ (runs_wand (c := c) (p := Prog.lift .deviceId >>= fun d => kernelRun (F := F) d) (B := iprop(atEnd m c ∗ debt c 0))
    (Q := iprop(atEnd m c ∗ (dats m 0 c).owesAt () t0_0.succ ∗ emp)))
  show iprop(atStart m c ∗ (dats m 0 c).owesAt () t0_0.castSucc ∗ emp)
    ⊢ iprop(runs c (Prog.lift .deviceId >>= fun d => kernelRun (F := F) d) iprop(atEnd m c ∗ debt c 0)
      ∗ (iprop(atEnd m c ∗ debt c 0) -∗ iprop(atEnd m c ∗ (dats m 0 c).owesAt () t0_0.succ ∗ emp)))
  iintro ⟨Hs, Ho, -⟩
  isplitl [Hs Ho]
  · iapply hrun
    isplitl [Hs]; · iexact Hs
    iapply hin; iexact Ho
  iintro ⟨He, Hd⟩
  isplitl [He]; · iexact He
  isplitl [Hd]; · iapply hout; iexact Hd
  iempintro

/-- The kernel's body does what the region asks of it. -/
theorem dats_body (c : Dev nD) : BodyObligation (dats m 0 c) (defs₀ (F := F)) noLoops () Set.univ := fun t => by
  rw [fin_N0 t, step_body, show (Finset.univ : Finset (Fin cfg0.W)) = ∅ from rfl, bigSep_empty, bigSep_empty]
  exact triple_restated (step_run m c) rfl .rfl fun _ => .rfl

end Cert.KernelIdeal.Gather
end
-- ==== Proof.Launch.lean ====
/-
# The launch

At launch the tickets of every transfer, the semaphores and the arrays are dealt to the devices: each gets its own chunks and
the semaphores' records, and the tickets to send into its neighbours' results. From the deal every run of the program ends,
with every device's result gathered and its argument as launched.
-/
module

public import proofs.«01_k».proof.Proof.Ends

@[expose] public section

noncomputable section

namespace Cert.KernelIdeal.Gather

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Books ℕ

variable (m : (ℓ : Loc nD τ sig) → Buf (Elt F) ℓ)

attribute [local irreducible] firstOf kernelRun

/-! ## The book at launch -/

theorem cell_inj : Function.Injective fun p : Dev nD × Fin 72 => cell p.1 p.2 := by
  rintro ⟨c, q⟩ ⟨c', q'⟩ h
  have h1 : c = c' := congrArg (fun g : GSem nD τ sig => g.1.1) h
  have h2 : SemLoc.dma (sig := sig) q = SemLoc.dma q' := congrArg Prod.snd h
  rw [h1, SemLoc.dma.inj h2]

/-- All semaphores of all devices. -/
def cells : Finset (GSem nD τ sig) := Finset.univ.map ⟨fun p : Dev nD × Fin 72 => cell p.1 p.2, cell_inj⟩
/-- A ticket for each of the first eight rounds of every semaphore. -/
def allTickets : Finset (GSem nD τ sig × ℕ × Unit) :=
  Finset.univ.map ⟨fun p : (Dev nD × Fin 72) × Fin 8 => (cell p.1.1 p.1.2, p.2.val, ()), by
    rintro ⟨p, k⟩ ⟨p', k'⟩ h
    have h1 : p = p' := cell_inj (congrArg Prod.fst h)
    have h2 : k = k' := Fin.ext (congrArg (fun x : GSem nD τ sig × ℕ × Unit => x.2.1) h)
    rw [h1, h2]⟩

/-- Both books at launch. -/
def u₀ : Books := (initOf (Pipeline.cells cfgs cellOf_inj) (Pipeline.launchToks cfgs cellOf_inj), initOf cells allTickets)

/-- Device `c`'s part of the kernel's book at launch. -/
def opened (c : Dev nD) : sProp 𝕄 :=
  iprop((bigSep Finset.univ fun q : Fin 72 => roundState bookK (book m) (cell c q) 0)
    ∗ (bigSep Finset.univ fun q : Fin 72 => (reached bookK (cell c q) 0 : sProp 𝕄))
    ∗ (bigSep Finset.univ fun q : Fin 72 => atPos bookK (cell c q) 0 ∅ 0)
    ∗ bigSep Finset.univ fun q : Fin 72 => bigSep Finset.univ fun k : Fin 8 => dutyTok bookK (cell c q) k.val ())

/-- The book at launch, dealt by device. -/
theorem open_book : BI.own (bookK (F := F) (initOf cells allTickets)) ⊢ (|==> bigSep Finset.univ (opened m) : sProp 𝕄) := by
  have hX (Φ : GSem nD τ sig → sProp 𝕄) : bigSep cells Φ = bigSep Finset.univ fun c : Dev nD => bigSep Finset.univ fun q : Fin 72 => Φ (cell c q) := by
    unfold cells; rw [bigSep_map, bigSep_univ_prod]; rfl
  have hT : bigSep allTickets (fun x => (dutyTok bookK x.1 x.2.1 x.2.2 : sProp 𝕄))
      = bigSep Finset.univ fun c : Dev nD => bigSep Finset.univ fun q : Fin 72 => bigSep Finset.univ fun k : Fin 8 => dutyTok bookK (cell c q) k.val () := by
    unfold allTickets; rw [bigSep_map, bigSep_univ_prod, bigSep_univ_prod]; rfl
  iintro HX
  imod (Rounds.fund bookK (book m) cells allTickets) $$ HX with ⟨Hst, Hr, Hat, Htok⟩
  imodintro
  ihave Hst := (Entails.of_eq (hX fun g => roundState bookK (book m) g 0)) $$ Hst
  ihave Hat := (Entails.of_eq (hX fun g => atPos bookK g 0 ∅ 0)) $$ Hat
  ihave Hr := (Entails.of_eq (hX fun g => reached bookK g 0)) $$ Hr
  ihave Htok := (Entails.of_eq hT) $$ Htok
  unfold opened; simp only [bigSep_sep']
  isplitl [Hst]; · iexact Hst
  isplitl [Hr]; · iexact Hr
  isplitl [Hat]; · iexact Hat
  iexact Htok

/-- The two books at launch. -/
theorem open_books : (ownU u₀ : sProp 𝕄) ⊢ |={Set.univ}=> iprop(BI.own (bookP (F := F) (initOf (Pipeline.cells cfgs cellOf_inj) (Pipeline.launchToks cfgs cellOf_inj)))
      ∗ bigSep Finset.univ (opened m)) := by
  have h := open_book m
  unfold u₀
  iintro Hu
  ihave H := (ownU_pair _ _) $$ Hu
  icases H with ⟨HP, HX⟩
  imod h $$ HX with HX
  imodintro
  isplitl [HP]; · iexact HP
  iexact HX

/-! ## What one device brings to the deal -/

/-- The semaphores of device `c` put under the book. -/
theorem cells_alloc (c : Dev nD) :
    iprop((bigSep Finset.univ fun q : Fin 72 => semVal (cell c q) 0) ∗ bigSep Finset.univ fun q : Fin 72 => roundState bookK (book m) (cell c q) 0)
      ⊢ (|={Set.univ}=> bigSep Finset.univ fun q : Fin 72 => iprop(∃ κ : ℕ, cellInv bookK (book m) κ (cell c q)) : sProp 𝕄) := by
  rw [← bigSep_sep']
  exact (bigSep_mono fun q _ => (Rounds.body_intro bookK (book m) (cell c q)).trans inv_alloc).trans (bigSep_fupd _ _)

/-- Slot and round of the chunks, one for one. -/
def chunkAt : Fin 2 × Fin 16 ≃ Fin 4 × Fin 8 :=
  Equiv.ofBijective (fun p => (slot p.1.val p.2.val, ⟨p.2.val / 2, by omega⟩)) (by decide)

/-- A holding per slot and round is one per chunk of each half. -/
theorem by_chunk (Φ : Fin 4 → ℕ → sProp 𝕄) :
    (bigSep Finset.univ fun s : Fin 4 => bigSep Finset.univ fun k : Fin 8 => Φ s k.val)
      = iprop((bigSep Finset.univ fun r : Fin 16 => Φ (slot 0 r.val) (r.val / 2)) ∗ bigSep Finset.univ fun r : Fin 16 => Φ (slot 1 r.val) (r.val / 2)) := by
  rw [← bigSep_univ_prod (fun p : Fin 4 × Fin 8 => Φ p.1 p.2.val), bigSep_univ_equiv chunkAt, bigSep_univ_prod, two_parts]
  rfl

/-- The tickets of device `c`'s own semaphores, those of its fetches and copies out by chunk. -/
def ownTickets (c : Dev nD) : sProp 𝕄 :=
  iprop(((bigSep Finset.univ fun r : Fin 16 => dutyTok bookK (cell c (semIn (slot 0 r.val))) (r.val / 2) ())
      ∗ bigSep Finset.univ fun r : Fin 16 => dutyTok bookK (cell c (semIn (slot 1 r.val))) (r.val / 2) ())
    ∗ ((bigSep Finset.univ fun r : Fin 16 => dutyTok bookK (cell c (semOut (slot 0 r.val))) (r.val / 2) ())
      ∗ bigSep Finset.univ fun r : Fin 16 => dutyTok bookK (cell c (semOut (slot 1 r.val))) (r.val / 2) ())
    ∗ (bigSep Finset.univ fun r : Fin 16 => dutyTok bookK (cell c (semSX r)) 0 ())
    ∗ (bigSep Finset.univ fun r : Fin 16 => dutyTok bookK (cell c (semRX r)) 0 ())
    ∗ (bigSep Finset.univ fun r : Fin 16 => dutyTok bookK (cell c (semSY r)) 0 ())
    ∗ bigSep Finset.univ fun r : Fin 16 => dutyTok bookK (cell c (semRY r)) 0 ())

/-- A device's tickets, by family of semaphores. -/
theorem tickets_sorted (c : Dev nD) :
    (bigSep Finset.univ fun q : Fin 72 => bigSep Finset.univ fun k : Fin 8 => dutyTok bookK (cell c q) k.val ()) ⊢ (ownTickets (F := F) c : sProp 𝕄) := by
  have h (f : Fin 16 → Fin 72) : (bigSep Finset.univ fun r : Fin 16 => bigSep Finset.univ fun k : Fin 8 => dutyTok bookK (cell c (f r)) k.val ())
      ⊢ (bigSep Finset.univ fun r : Fin 16 => dutyTok bookK (cell c (f r)) 0 () : sProp 𝕄) :=
    bigSep_mono fun r _ => BI.bigSep_elim (Φ := fun k : Fin 8 => (dutyTok bookK (cell c (f r)) k.val () : sProp 𝕄)) (Finset.mem_univ (0 : Fin 8))
  rw [all_sems, by_chunk (fun s k => dutyTok bookK (cell c (semIn s)) k ()), by_chunk (fun s k => dutyTok bookK (cell c (semOut s)) k ())]
  unfold ownTickets
  exact BI.sep_mono (Entails.refl _) (BI.sep_mono (Entails.refl _) (BI.sep_mono (h _) (BI.sep_mono (h _) (BI.sep_mono (h _) (h _)))))

/-- The credits of the transfers device `c` will receive. -/
theorem credits (c : Dev nD) :
    (Pipeline.launchCred (fun d : Dev nD => owed d 0 0) c : sProp 𝕄)
      ⊢ iprop((bigSep Finset.univ fun r : Fin 16 => cred (tallyAt (cell c (semRX r)) () narrowUnits))
        ∗ bigSep Finset.univ fun r : Fin 16 => cred (tallyAt (cell c (semRY r)) () narrowUnits)) := by
  unfold owed owedX owedY
  rw [from_start, Pipeline.launchCred_add, Pipeline.launchCred_sum, Pipeline.launchCred_sum]
  exact BI.sep_mono (bigSep_mono fun r _ => Pipeline.launchCred_tallyAt (.dma (semRX r)) nx nx nx_nx nx_nx () narrowUnits c)
    (bigSep_mono fun r _ => Pipeline.launchCred_tallyAt (.dma (semRY r)) ny ny ny_ny ny_ny () narrowUnits c)

/-- The two arrays of device `c` at launch, in chunks. -/
theorem arrays (c : Dev nD) :
    (unscopedBufs c (fun b => m ((c.tc : Thread nD τ).loc b)) : sProp 𝕄)
      ⊢ iprop(((bigSep Finset.univ fun r : Fin 16 => argPiece m c (inRow c 0 r.val)) ∗ bigSep Finset.univ fun r : Fin 16 => argPiece m c (inRow c 1 r.val))
        ∗ (bigSep Finset.univ fun r : Fin 16 => blank (F := F) c (ownRow c r.val))
        ∗ (bigSep Finset.univ fun r : Fin 16 => blank (F := F) c (acrossRow c r.val))
        ∗ (bigSep Finset.univ fun r : Fin 16 => blank (F := F) c (othRow c r.val))
        ∗ (bigSep Finset.univ fun r : Fin 16 => blank (F := F) c (farRow c r.val))) := by
  have hres := res_blanks (F := F) c (m (resAt c))
  have harg := arg_halves m c
  rw [Pipeline.unscopedBufs_split₀ cfgs 0 (fun w => w.elim0) c, unscopedRest0_eq]
  iintro ⟨-, Ha, Hr⟩
  isplitl [Ha]
  · ihave Ha := (Entails.of_eq harg) $$ Ha
    iexact Ha
  iapply hres; iexact Hr

/-! ## The deal -/

/-- What device `c` keeps of what it brings. -/
def kept (c : Dev nD) : sProp 𝕄 :=
  iprop(((bigSep Finset.univ fun r : Fin 16 => argPiece m c (inRow c 0 r.val)) ∗ (bigSep Finset.univ fun r : Fin 16 => argPiece m c (inRow c 1 r.val)))
    ∗ ((bigSep Finset.univ fun r : Fin 16 => blank (F := F) c (ownRow c r.val)) ∗ (bigSep Finset.univ fun r : Fin 16 => blank (F := F) c (othRow c r.val)))
    ∗ ((bigSep Finset.univ fun r : Fin 16 => dutyTok bookK (cell c (semIn (slot 0 r.val))) (r.val / 2) ())
      ∗ (bigSep Finset.univ fun r : Fin 16 => dutyTok bookK (cell c (semIn (slot 1 r.val))) (r.val / 2) ()))
    ∗ ((bigSep Finset.univ fun r : Fin 16 => dutyTok bookK (cell c (semOut (slot 0 r.val))) (r.val / 2) ())
      ∗ (bigSep Finset.univ fun r : Fin 16 => dutyTok bookK (cell c (semOut (slot 1 r.val))) (r.val / 2) ()))
    ∗ ((bigSep Finset.univ fun r : Fin 16 => dutyTok bookK (cell c (semSX r)) 0 ()) ∗ (bigSep Finset.univ fun r : Fin 16 => dutyTok bookK (cell c (semSY r)) 0 ()))
    ∗ ((bigSep Finset.univ fun r : Fin 16 => cred (tallyAt (cell c (semRX r)) () narrowUnits)) ∗ (bigSep Finset.univ fun r : Fin 16 => cred (tallyAt (cell c (semRY r)) () narrowUnits)))
    ∗ (bigSep Finset.univ fun q : Fin 72 => atPos bookK (cell c q) 0 ∅ 0))
/-- What it lends its x-neighbour, which sends into its result, and its y-neighbour, which forwards into it. -/
def lentX (c : Dev nD) : sProp 𝕄 :=
  iprop((bigSep Finset.univ fun r : Fin 16 => blank (F := F) c (acrossRow c r.val)) ∗ (bigSep Finset.univ fun r : Fin 16 => dutyTok bookK (cell c (semRX r)) 0 ()))
/-- What it lends its y-neighbour. -/
def lentY (c : Dev nD) : sProp 𝕄 :=
  iprop((bigSep Finset.univ fun r : Fin 16 => blank (F := F) c (farRow c r.val)) ∗ (bigSep Finset.univ fun r : Fin 16 => dutyTok bookK (cell c (semRY r)) 0 ()))

/-- What device `c` brings to the deal. -/
theorem brings (c : Dev nD) :
    handed m osem (fun d => owed d 0 0) (opened m) c
      ⊢ |={Set.univ}=> iprop((bigSep Finset.univ fun q : Fin 72 => iprop(∃ κ : ℕ, cellInv bookK (book m) κ (cell c q)))
        ∗ (bigSep Finset.univ fun q : Fin 72 => (reached bookK (cell c q) 0 : sProp 𝕄)) ∗ kept m c ∗ lentX c ∗ lentY c) := by
  have hA := arrays m c
  have hT := tickets_sorted (F := F) c
  have hC := credits (F := F) c
  have hI := cells_alloc m c
  unfold handed opened
  rw [ownSems0_eq]
  iintro ⟨Hb, Hz, Hc, Hst, Hr, Hat, Ht⟩
  imod hI $$ [Hz Hst] with HI
  · isplitl [Hz]; · iexact Hz
    iexact Hst
  ihave Hb := hA $$ Hb
  ihave Ht := hT $$ Ht
  ihave Hc := hC $$ Hc
  unfold ownTickets
  icases Hb with ⟨⟨Ha0, Ha1⟩, Hown, Hacr, Hoth, Hfar⟩
  icases Ht with ⟨⟨Hi0, Hi1⟩, ⟨Ho0, Ho1⟩, Hsx, Hrx, Hsy, Hry⟩
  icases Hc with ⟨Hcx, Hcy⟩
  imodintro
  unfold kept lentX lentY
  isplitl [HI]; · iexact HI
  isplitl [Hr]; · iexact Hr
  isplitr [Hacr Hrx Hfar Hry]
  · isplitl [Ha0 Ha1]
    · isplitl [Ha0]; · iexact Ha0
      iexact Ha1
    isplitl [Hown Hoth]
    · isplitl [Hown]; · iexact Hown
      iexact Hoth
    isplitl [Hi0 Hi1]
    · isplitl [Hi0]; · iexact Hi0
      iexact Hi1
    isplitl [Ho0 Ho1]
    · isplitl [Ho0]; · iexact Ho0
      iexact Ho1
    isplitl [Hsx Hsy]
    · isplitl [Hsx]; · iexact Hsx
      iexact Hsy
    isplitl [Hcx Hcy]
    · isplitl [Hcx]; · iexact Hcx
      iexact Hcy
    iexact Hat
  isplitl [Hacr Hrx]
  · isplitl [Hacr]; · iexact Hacr
    iexact Hrx
  isplitl [Hfar]; · iexact Hfar
  iexact Hry

/-- What device `c` starts with beside the records all devices share: its chunks to convert, the places of its staging
    semaphores, and its tickets to send. -/
def stock (c : Dev nD) : sProp 𝕄 :=
  iprop(((bigSep Finset.univ fun r : Fin 16 => todo m c 0 r.val) ∗ (bigSep Finset.univ fun r : Fin 16 => todo m c 1 r.val))
    ∗ (bigSep Finset.univ fun s : Fin 4 => atPos bookK (cell c (semIn s)) 0 ∅ 0) ∗ (bigSep Finset.univ fun s : Fin 4 => atPos bookK (cell c (semOut s)) 0 ∅ 0)
    ∗ tickets c)

/-- With what its neighbours lend it, a device has its stock. -/
theorem stocked (c : Dev nD) : iprop(kept m c ∗ lentX (nx c) ∗ lentY (ny c)) ⊢ (stock m c : sProp 𝕄) := by
  unfold kept lentX lentY stock todo tickets toSend toPass
  rw [all_sems]
  simp only [across_eq, far_eq, bigSep_sep', show ∀ r, outRow c 0 r = ownRow c r from fun _ => rfl, show ∀ r, outRow c 1 r = othRow c r from fun _ => rfl]
  iintro ⟨⟨⟨Ha0, Ha1⟩, ⟨Hown, Hoth⟩, ⟨Hi0, Hi1⟩, ⟨Ho0, Ho1⟩, ⟨Hsx, Hsy⟩, ⟨Hcx, Hcy⟩, Pi, Po, Psx, Prx, Psy, Pry⟩, ⟨Hbx, Hrx⟩, Hby, Hry⟩
  isplitl [Ha0 Ha1 Hown Hoth Hi0 Hi1 Ho0 Ho1]
  · isplitl [Ha0 Hown Hi0 Ho0]
    · isplitl [Ha0]; · iexact Ha0
      isplitl [Hown]; · iexact Hown
      isplitl [Hi0]; · iexact Hi0
      iexact Ho0
    isplitl [Ha1]; · iexact Ha1
    isplitl [Hoth]; · iexact Hoth
    isplitl [Hi1]; · iexact Hi1
    iexact Ho1
  isplitl [Pi]; · iexact Pi
  isplitl [Po]; · iexact Po
  isplitl [Hbx Hsx Hrx]
  · isplitl [Hbx]; · iexact Hbx
    isplitl [Hsx]; · iexact Hsx
    iexact Hrx
  isplitl [Hcx Prx Hby Hsy Hry]
  · isplitl [Hcx]; · iexact Hcx
    isplitl [Prx]; · iexact Prx
    isplitl [Hby]; · iexact Hby
    isplitl [Hsy]; · iexact Hsy
    iexact Hry
  isplitl [Hcy Pry]
  · isplitl [Hcy]; · iexact Hcy
    iexact Pry
  isplitl [Psx]; · iexact Psx
  iexact Psy

/-- Every device for its x-neighbour. -/
def swapX : Dev nD ≃ Dev nD := ⟨nx, nx, nx_nx, nx_nx⟩
/-- Every device for its y-neighbour. -/
def swapY : Dev nD ≃ Dev nD := ⟨ny, ny, ny_ny, ny_ny⟩

/-- The loans change hands. -/
theorem loans : (bigSep Finset.univ fun c : Dev nD => iprop(kept m c ∗ lentX c ∗ lentY c)) ⊢ (bigSep Finset.univ fun c : Dev nD => stock m c : sProp 𝕄) := by
  have h : (bigSep Finset.univ fun c : Dev nD => iprop(kept m c ∗ lentX c ∗ lentY c))
      = (bigSep Finset.univ fun c : Dev nD => iprop(kept m c ∗ lentX (nx c) ∗ lentY (ny c)) : sProp 𝕄) := by
    rw [bigSep_sep', bigSep_sep', bigSep_sep', bigSep_sep', bigSep_univ_equiv swapX (fun c : Dev nD => lentX (F := F) c),
      bigSep_univ_equiv swapY (fun c : Dev nD => lentY (F := F) c)]
    rfl
  rw [h]
  exact bigSep_mono fun c _ => stocked m c

/-- The records all devices share. -/
def records (κ : Dev nD × Fin 72 → ℕ) : sProp 𝕄 :=
  iprop((bigSep Finset.univ fun p : Dev nD × Fin 72 => cellInv bookK (book m) (κ p) (cell p.1 p.2))
    ∗ (bigSep Finset.univ fun p : Dev nD × Fin 72 => (reached bookK (cell p.1 p.2) 0 : sProp 𝕄)))
instance (κ : Dev nD × Fin 72 → ℕ) : BI.Persistent (records m κ) := by unfold records; infer_instance

/-- A device's share of the deal. -/
def share (c : Dev nD) : sProp 𝕄 := iprop(∃ κ, records m κ ∗ stock m c)

/-- What all devices bring becomes the share of each. -/
theorem shares :
    (bigSep Finset.univ fun c : Dev nD => iprop((bigSep Finset.univ fun q : Fin 72 => iprop(∃ κ : ℕ, cellInv bookK (book m) κ (cell c q)))
        ∗ (bigSep Finset.univ fun q : Fin 72 => (reached bookK (cell c q) 0 : sProp 𝕄)) ∗ kept m c ∗ lentX c ∗ lentY c))
      ⊢ (bigSep Finset.univ fun c : Dev nD => share m c : sProp 𝕄) := by
  have hL := loans m
  rw [bigSep_sep', bigSep_sep', ← bigSep_univ_prod (fun p : Dev nD × Fin 72 => iprop(∃ κ : ℕ, cellInv bookK (book m) κ (cell p.1 p.2))),
    ← bigSep_univ_prod (fun p : Dev nD × Fin 72 => (reached bookK (cell p.1 p.2) 0 : sProp 𝕄))]
  iintro ⟨HI, #HR, Hrest⟩
  ihave HK := (BI.bigSep_exists_pi Finset.univ (fun (p : Dev nD × Fin 72) (κ : ℕ) => (cellInv bookK (book m) κ (cell p.1 p.2) : sProp 𝕄))) $$ HI
  icases HK with ⟨%κ, #HI⟩
  ihave Hst := hL $$ Hrest
  have h : iprop(records m κ ∗ bigSep Finset.univ fun c : Dev nD => stock m c) ⊢ (bigSep Finset.univ fun c : Dev nD => share m c : sProp 𝕄) :=
    each_with fun c _ => by
      show iprop(records m κ ∗ stock m c) ⊢ iprop(∃ κ, records m κ ∗ stock m c)
      iintro H; iexists κ; iexact H
  iapply h
  isplitr
  · unfold records
    isplitr; · iexact HI
    iexact HR
  iexact Hst

/-- The launch dealt. -/
theorem deal : (bigSep Finset.univ (handed m osem (fun d => owed d 0 0) (opened m)) : sProp 𝕄) ⊢ |={Set.univ}=> bigSep Finset.univ (share m) :=
  ((bigSep_mono fun c _ => brings m c).trans (bigSep_fupd _ _)).trans (BI.fupd_mono (shares m))

/-- With its share of the deal and its staging buffers a device can start. -/
theorem starts (c : Dev nD) : iprop((share m c ∗ levAts waitable order) ∗ Pipeline.scopedRest cfg0.spec c) ⊢ (atStart m c : sProp 𝕄) := by
  have h1 := (wide_slots (F := F) c).trans (four_parts _)
  have h2 := (narrow_slots (F := F) c).trans (four_parts _)
  rw [scopedRest0_eq, h1, h2]
  unfold share stock
  rw [four_parts, four_parts]
  iintro ⟨⟨⟨%κ, #HR, ⟨Ht0, Ht1⟩, ⟨Hi0, Hi1, Hi2, Hi3⟩, ⟨Ho0, Ho1, Ho2, Ho3⟩, Htk⟩, #HL⟩, ⟨Hw0, Hw1, Hw2, Hw3⟩, Hn0, Hn1, Hn2, Hn3⟩
  have hC : iprop(records m κ ∗ levAts waitable order) ⊢ ctx m κ := by
    unfold records ctx
    iintro ⟨⟨H1, H2⟩, H3⟩
    isplitl [H1]; · iexact H1
    isplitl [H2]; · iexact H2
    iexact H3
  ihave #HC := hC $$ []
  · isplitr; · iexact HR
    iexact HL
  have hb (q : Fin 72) := ctx_begun m κ c q
  unfold atStart fresh idle
  rw [show slot 0 0 = 0 from rfl, show slot 0 1 = 1 from rfl, show slot 1 0 = 2 from rfl, show slot 1 1 = 3 from rfl]
  iexists κ
  isplitr; · iexact HC
  isplitr [Htk]
  · isplitl [Ht0 Hw0 Hn0 Hi0 Ho0 Hw1 Hn1 Hi1 Ho1]
    · isplitl [Ht0]; · iexact Ht0
      isplitl [Hw0 Hn0 Hi0 Ho0]
      · isplitl [Hw0]; · iexact Hw0
        isplitl [Hn0]; · iexact Hn0
        isplitl [Hi0]; · iexact Hi0
        isplitl [Ho0]; · iexact Ho0
        isplitr; · iapply (hb (semIn 0)); iexact HC
        iapply (hb (semOut 0)); iexact HC
      isplitl [Hw1]; · iexact Hw1
      isplitl [Hn1]; · iexact Hn1
      isplitl [Hi1]; · iexact Hi1
      isplitl [Ho1]; · iexact Ho1
      isplitr; · iapply (hb (semIn 1)); iexact HC
      iapply (hb (semOut 1)); iexact HC
    isplitl [Ht1]; · iexact Ht1
    isplitl [Hw2 Hn2 Hi2 Ho2]
    · isplitl [Hw2]; · iexact Hw2
      isplitl [Hn2]; · iexact Hn2
      isplitl [Hi2]; · iexact Hi2
      isplitl [Ho2]; · iexact Ho2
      isplitr; · iapply (hb (semIn 2)); iexact HC
      iapply (hb (semOut 2)); iexact HC
    isplitl [Hw3]; · iexact Hw3
    isplitl [Hn3]; · iexact Hn3
    isplitl [Hi3]; · iexact Hi3
    isplitl [Ho3]; · iexact Ho3
    isplitr; · iapply (hb (semIn 3)); iexact HC
    iapply (hb (semOut 3)); iexact HC
  iexact Htk

/-! ## The run -/

/-- What a memory holds of device `c` at the end: its argument as launched, its result gathered. -/
def Ends (c : Dev nD) (s : MemSt nD τ sig (Elt F)) : Prop := s.mem (argAt c) = m (argAt c) ∧ s.mem (resAt c) = gathered m c

/-- What a device holds at its end is in the memory. -/
theorem read_off (c : Dev nD) (s' : Phys nD τ sig (Elt F)) :
    iprop(readOff m c ∗ SI s') ⊢ |={Set.univ}=> (iprop(⌜Ends m c s'.mem⌝ ∗ SI s') : sProp 𝕄) := by
  unfold readOff Ends
  iintro ⟨⟨Ha, Hr⟩, HSI⟩
  icombine HSI Ha gives %ha
  icombine HSI Hr gives %hr
  imodintro
  isplitr
  · ipureintro
    exact ⟨Buf.eq_of_forall_mem_univ ha, Buf.eq_of_forall_mem_univ hr⟩
  iexact HSI

/-- **The run.** From any memory with every semaphore at zero, every run of the program on the four devices ends; then
    every device's result is gathered, its argument as launched, and every semaphore zero. -/
theorem run_main (ρ : Dev nD → PrngReg) :
    θ_run (Pipeline.defs (pcfgs (F := F)) defs₀) (onTc (τ := τ) (main (F := F))) ⟨m, fun _ => 0, ρ⟩
      fun r => (∀ c, Ends m c r.2) ∧ r.2.sem = fun _ => 0 :=
  run_dealt (dats m) ownSemFacts (fun d => owed d 0 0) waitable order (share m) (readOff m) m ρ (dats_body m) (fun _ => rfl) (fun _ => rfl)
    (fun g hg => if_neg hg) (opened m) u₀ (open_books m) (deal m) (starts m) (fun _ => Entails.refl _) (Ends m) (read_off m)

end Cert.KernelIdeal.Gather
end
-- ==== Proof.Value.lean ====
/-
# The value

The whole argument cut in two along its rows, each half held by the two devices of one x coordinate: what every device's
result is gathered to is the rounding of the whole argument.
-/
module

public import proofs.«01_k».proof.Proof.Contents
public import Idealize.ShloMosaic.Lib.Layout

@[expose] public section

noncomputable section

namespace Cert.KernelIdeal.Gather

open Cert.KernelIdeal.Gen
open Idealize.ShloMosaic Idealize.ShloMosaic.TcCoe
open Idealize.SL Idealize.SL.Sem

variable {F : FTy → Type} [FloatOps F]

/-- A row of the result comes from a device that holds that half of the argument. -/
theorem bringer_half (c : Dev nD) (i : ℕ) (hi : i < 65536) : (bringer c i).val / 2 = i / 32768 := by
  have hc : c.val < 4 := c.isLt
  have hx := (nx_half c).1
  have hxy := (nx_half (ny c)).1
  have hy := (ny_half c).1
  unfold bringer
  split
  · omega
  · split <;> omega

/-- The half of the argument device `c` holds is that of its x coordinate. -/
theorem half_of (c : Dev nD) : ((Layout.meshBlock [2, 2] (![[0], []] : Fin 2 → List ℕ) c) 0).val = c.val / 2 := by
  revert c; decide
/-- Every device has all columns. -/
theorem whole_cols (c : Dev nD) : ((Layout.meshBlock [2, 2] (![[0], []] : Fin 2 → List ℕ) c) 1).val = 0 := by
  revert c; decide

/-- Where the cell of row `a` and column `b` of device `c`'s half is in the whole array. -/
theorem cell_in_whole (c : Dev nD) (a b : ℕ) (ha : a < 32768) (hb : b < 1024)
    (h : Layout.TilesN ⟨2, ![32768, 1024]⟩ ⟨2, ![65536, 1024]⟩ (fun d => Layout.cutSize [2, 2] ((![[0], []] : Fin 2 → List ℕ) d))) :
    (h.idx (Layout.meshBlock [2, 2] ![[0], []] c) (argCell c a b ha hb) 0).val = c.val / 2 * 32768 + a
      ∧ (h.idx (Layout.meshBlock [2, 2] ![[0], []] c) (argCell c a b ha hb) 1).val = b := by
  rw [Layout.TilesN.idx_val, Layout.TilesN.idx_val]
  exact ⟨congrArg (fun n => n * 32768 + a) (half_of c), (congrArg (fun n => n * 1024 + b) (whole_cols c)).trans (by omega)⟩

/-- When every device holds its half of the whole argument `v`, every device's result is gathered to the rounding of `v`. -/
theorem gathered_whole (m : (ℓ : Loc nD τ sig) → Buf (Elt F) ℓ) (v : (⟨2, ![65536, 1024]⟩ : Shape).Idx → Elt F .f32)
    (hm : ∀ c : Dev nD, m (argAt c) = Layout.blockN ⟨2, ![32768, 1024]⟩ ⟨2, ![65536, 1024]⟩ (Layout.meshBlock [2, 2] ![[0], []] c) v) (c : Dev nD) :
    gathered m c = truncf .bf16 v bitsLt_bf16_f32 := by
  funext i
  have hi : (i 0).val < 65536 := (i 0).isLt
  have hb := bringer_half c (i 0).val hi
  have hr : (bringer c (i 0).val).val / 2 * 32768 + (i 0).val % 32768 = (i 0).val := by omega
  have key : ∀ k : (⟨2, ![65536, 1024]⟩ : Shape).Idx, (k 0).val = (i 0).val → (k 1).val = (i 1).val → rounded (v k) = rounded (v i) := by
    intro k h0 h1
    exact congrArg (fun j => rounded (v j)) (funext fun a => Fin.ext (by
      match a with
      | ⟨0, _⟩ => exact h0
      | ⟨1, _⟩ => exact h1))
  unfold gathered
  rw [hm, Layout.blockN_apply]
  obtain ⟨h0, h1⟩ := cell_in_whole (bringer c (i 0).val) ((i 0).val % 32768) (i 1).val (Nat.mod_lt _ (by decide)) (i 1).isLt (by decide)
  exact key _ (h0.trans hr) h1

end Cert.KernelIdeal.Gather
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Bits.Launch
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore at zero. -/
theorem frame_kernel : Cert.quiescent_Kernel := fun m ρ _ =>
  (θ_run _ _ _).mono (fun _ h => ⟨fun c => (h.1 c).1, h.2⟩) (Cert.Kernel.Gather.run_main m ρ)

/-- The kernel over the extended reals does so too. -/
theorem frame_ideal : Cert.quiescent_KernelIdeal := fun m ρ _ =>
  (θ_run _ _ _).mono (fun _ h => ⟨fun c => (h.1 c).1, h.2⟩) (Cert.KernelIdeal.Gather.run_main m ρ)

/-- So does the reference over the extended reals. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- From the same whole argument, cut between the devices, every device of the kernel ends with what the reference computes. -/
theorem same_function : Cert.algebraic_KernelIdeal_ReferenceIdeal := by
  intro m ρ m' ρ' _ hm
  have hK := Cert.KernelIdeal.Gather.run_main m ρ
  have hR := Cert.ReferenceIdeal.Value.run m' ρ'
  have hV := Cert.KernelIdeal.Gather.gathered_whole m _ hm
  exact ⟨_, (θ_run _ _ _).mono (fun _ h c => ⟨(h.1 c).2.trans (hV c), (h.1 c).1⟩) hK, (θ_run _ _ _).mono (fun _ h => h 0) hR⟩

theorem claim : Cert.Claim := ⟨Cert.Kernel.Gen.facts, Cert.KernelIdeal.Gen.facts, Cert.ReferenceIdeal.Gen.facts,
  frame_kernel, frame_ideal, frame_reference, trivial, same_function⟩

end Cert.Proof

end
